-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_are_flags [hPre_scores_are_flags : Cert.Pre_scores_are_flags.Facts] (m : (ℓ : Loc Cert.KernelIdeal.nD Cert.KernelIdeal.τ Cert.KernelIdeal.sig) → Buf (Elt Ideal) ℓ) : Prop :=
  ∀ c : Dev Cert.KernelIdeal.nD,
    (Cert.Pre_scores_are_flags.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_are_flags [hPre_scores_are_flags : Cert.Pre_scores_are_flags.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_are_flags.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_are_flags [hKernelIdeal : Cert.KernelIdeal.Facts] [hPre_scores_are_flags : Cert.Pre_scores_are_flags.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_are_flags m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_are_flags [hReferenceIdeal : Cert.ReferenceIdeal.Facts] [hPre_scores_are_flags : Cert.Pre_scores_are_flags.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_are_flags m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scores_are_flags [hKernelIdeal : Cert.KernelIdeal.Facts] [hReferenceIdeal : Cert.ReferenceIdeal.Facts] [hPre_scores_are_flags : Cert.Pre_scores_are_flags.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_are_flags m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v762) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_are_flags : Cert.Pre_scores_are_flags.Facts),
    quiescent_Kernel (hKernel := hKernel)
    ∧ quiescent_KernelIdeal (hKernelIdeal := hKernelIdeal)
    ∧ quiescent_KernelIdeal_pre_scores_are_flags (hKernelIdeal := hKernelIdeal) (hPre_scores_are_flags := hPre_scores_are_flags)
    ∧ quiescent_ReferenceIdeal (hReferenceIdeal := hReferenceIdeal)
    ∧ quiescent_ReferenceIdeal_pre_scores_are_flags (hReferenceIdeal := hReferenceIdeal) (hPre_scores_are_flags := hPre_scores_are_flags)
    ∧ preserves_Kernel_KernelIdeal
    ∧ algebraic_KernelIdeal_ReferenceIdeal_pre_scores_are_flags (hKernelIdeal := hKernelIdeal) (hReferenceIdeal := hReferenceIdeal) (hPre_scores_are_flags := hPre_scores_are_flags)
-- ==== Pre_scores_are_flags.lean ====
abbrev S2x20x19 : Shape := ⟨3, ![2, 20, 19]⟩
abbrev S2x20 : Shape := ⟨2, ![2, 20]⟩
abbrev S2x32x32x32x32 : Shape := ⟨5, ![2, 32, 32, 32, 32]⟩
abbrev S7x32x3x3x3 : Shape := ⟨5, ![7, 32, 3, 3, 3]⟩
abbrev S7 : Shape := ⟨1, ![7]⟩
abbrev S_ : Shape := ⟨0, ![]⟩

class Facts : Prop where
  bcast_S_S2x20 : S_.BroadcastsInDim S2x20 (![] : Fin 0 → Fin S2x20.rank)

variable [Facts]

def fn {F : FTy → Type} [FloatOps F] (main_arg0 : FVec F S2x20x19 .f32) (main_arg1 : FVec F S2x20 .f32) (main_arg2 : FVec F S2x32x32x32x32 .f32) (main_arg3 : FVec F S7x32x3x3x3 .f32) (main_arg4 : FVec F S7 .f32) : IVec S2x20 1 :=
  let main_cst : FVec F S_ .f32 := constant S_ .f32 0x00000000#32
  let main_v0 : FVec F S2x20 .f32 := broadcastInDim S2x20 ![] bcast_S_S2x20 main_cst
  let main_v1 : IVec S2x20 1 := cmpf .oeq main_arg1 main_v0
  let main_cst_0 : FVec F S_ .f32 := constant S_ .f32 0x3F800000#32
  let main_v2 : FVec F S2x20 .f32 := broadcastInDim S2x20 ![] bcast_S_S2x20 main_cst_0
  let main_v3 : IVec S2x20 1 := cmpf .oeq main_arg1 main_v2
  let main_v4 : IVec S2x20 1 := ori main_v1 main_v3
  main_v4
-- ==== Kernel.lean ====
abbrev S2x20x19 : Shape := ⟨3, ![2, 20, 19]⟩
abbrev S2x20 : Shape := ⟨2, ![2, 20]⟩
abbrev S2x32x32x32x32 : Shape := ⟨5, ![2, 32, 32, 32, 32]⟩
abbrev S7x32x3x3x3 : Shape := ⟨5, ![7, 32, 3, 3, 3]⟩
abbrev S7 : Shape := ⟨1, ![7]⟩
abbrev S2x32x32768 : Shape := ⟨3, ![2, 32, 32768]⟩
abbrev S3x3x7x3x32 : Shape := ⟨5, ![3, 3, 7, 3, 32]⟩
abbrev S9x7x96 : Shape := ⟨3, ![9, 7, 96]⟩
abbrev S_ : Shape := ⟨0, ![]⟩
abbrev S9x8x96 : Shape := ⟨3, ![9, 8, 96]⟩
abbrev S2x20x3 : Shape := ⟨3, ![2, 20, 3]⟩
abbrev S2x20x16 : Shape := ⟨3, ![2, 20, 16]⟩
abbrev S2x20x4x4 : Shape := ⟨4, ![2, 20, 4, 4]⟩
abbrev S2x20x3x1 : Shape := ⟨4, ![2, 20, 3, 1]⟩
abbrev S2x20x1 : Shape := ⟨3, ![2, 20, 1]⟩
abbrev S2x20x10 : Shape := ⟨3, ![2, 20, 10]⟩
abbrev S10 : Shape := ⟨1, ![10]⟩
abbrev S1x1x10 : Shape := ⟨3, ![1, 1, 10]⟩
abbrev S2x1x10 : Shape := ⟨3, ![2, 1, 10]⟩
abbrev S2x21x10 : Shape := ⟨3, ![2, 21, 10]⟩
abbrev S1x1 : Shape := ⟨2, ![1, 1]⟩
abbrev S256x128 : Shape := ⟨2, ![256, 128]⟩
abbrev S8x32768 : Shape := ⟨2, ![8, 32768]⟩
abbrev S1x32x32768 : Shape := ⟨3, ![1, 32, 32768]⟩
abbrev S32x32768 : Shape := ⟨2, ![32, 32768]⟩
abbrev S32x1024 : Shape := ⟨2, ![32, 1024]⟩
abbrev S32x31744 : Shape := ⟨2, ![32, 31744]⟩
abbrev S96x32768 : Shape := ⟨2, ![96, 32768]⟩
abbrev S1x8x96 : Shape := ⟨3, ![1, 8, 96]⟩
abbrev S8x96 : Shape := ⟨2, ![8, 96]⟩
abbrev S8x33 : Shape := ⟨2, ![8, 33]⟩
abbrev S8x32735 : Shape := ⟨2, ![8, 32735]⟩
abbrev S8x32 : Shape := ⟨2, ![8, 32]⟩
abbrev S8x32736 : Shape := ⟨2, ![8, 32736]⟩
abbrev S8x31 : Shape := ⟨2, ![8, 31]⟩
abbrev S8x32737 : Shape := ⟨2, ![8, 32737]⟩
abbrev S8x1 : Shape := ⟨2, ![8, 1]⟩
abbrev S8x32767 : Shape := ⟨2, ![8, 32767]⟩
abbrev S8x256x128 : Shape := ⟨3, ![8, 256, 128]⟩
abbrev S1x1x1 : Shape := ⟨3, ![1, 1, 1]⟩
abbrev S1x256x128 : Shape := ⟨3, ![1, 256, 128]⟩
abbrev S1 : Shape := ⟨1, ![1]⟩

abbrev nBuf : Space → Nat
  | .hbm => 42
  | .vmem => 2
  | .smem => 2
  | _ => 0

abbrev bufTy : (tb : Table) → Fin (tcTables nBuf tb) → BufTy
  | .hbm, ⟨0, _⟩ => ⟨S2x20x19, .f32⟩
  | .hbm, ⟨1, _⟩ => ⟨S2x20, .f32⟩
  | .hbm, ⟨2, _⟩ => ⟨S2x32x32x32x32, .f32⟩
  | .hbm, ⟨3, _⟩ => ⟨S7x32x3x3x3, .f32⟩
  | .hbm, ⟨4, _⟩ => ⟨S7, .f32⟩
  | .hbm, ⟨5, _⟩ => ⟨S2x32x32768, .f32⟩
  | .hbm, ⟨6, _⟩ => ⟨S3x3x7x3x32, .f32⟩
  | .hbm, ⟨7, _⟩ => ⟨S9x7x96, .f32⟩
  | .hbm, ⟨8, _⟩ => ⟨S_, .i32⟩
  | .hbm, ⟨9, _⟩ => ⟨S_, .f32⟩
  | .hbm, ⟨10, _⟩ => ⟨S9x8x96, .f32⟩
  | .hbm, ⟨11, _⟩ => ⟨S9x8x96, .bf16⟩
  | .hbm, ⟨12, _⟩ => ⟨S2x20x3, .f32⟩
  | .hbm, ⟨13, _⟩ => ⟨S2x20x16, .f32⟩
  | .hbm, ⟨14, _⟩ => ⟨S2x20x4x4, .f32⟩
  | .hbm, ⟨15, _⟩ => ⟨S2x20x3x1, .f32⟩
  | .hbm, ⟨16, _⟩ => ⟨S2x20x3, .f32⟩
  | .hbm, ⟨17, _⟩ => ⟨S_, .f32⟩
  | .hbm, ⟨18, _⟩ => ⟨S2x20x3, .f32⟩
  | .hbm, ⟨19, _⟩ => ⟨S2x20x3, .f32⟩
  | .hbm, ⟨20, _⟩ => ⟨S_, .f32⟩
  | .hbm, ⟨21, _⟩ => ⟨S2x20x3, .f32⟩
  | .hbm, ⟨22, _⟩ => ⟨S2x20x3, .f32⟩
  | .hbm, ⟨23, _⟩ => ⟨S_, .f32⟩
  | .hbm, ⟨24, _⟩ => ⟨S2x20x3, .f32⟩
  | .hbm, ⟨25, _⟩ => ⟨S2x20x3, .f32⟩
  | .hbm, ⟨26, _⟩ => ⟨S_, .f32⟩
  | .hbm, ⟨27, _⟩ => ⟨S2x20x3, .f32⟩
  | .hbm, ⟨28, _⟩ => ⟨S2x20x3, .f32⟩
  | .hbm, ⟨29, _⟩ => ⟨S2x20x3, .f32⟩
  | .hbm, ⟨30, _⟩ => ⟨S_, .f32⟩
  | .hbm, ⟨31, _⟩ => ⟨S2x20x3, .f32⟩
  | .hbm, ⟨32, _⟩ => ⟨S2x20x3, .f32⟩
  | .hbm, ⟨33, _⟩ => ⟨S2x20x1, .f32⟩
  | .hbm, ⟨34, _⟩ => ⟨S2x20x10, .f32⟩
  | .hbm, ⟨35, _⟩ => ⟨S_, .i32⟩
  | .hbm, ⟨36, _⟩ => ⟨S_, .f32⟩
  | .hbm, ⟨37, _⟩ => ⟨S10, .f32⟩
  | .hbm, ⟨38, _⟩ => ⟨S1x1x10, .f32⟩
  | .hbm, ⟨39, _⟩ => ⟨S2x1x10, .f32⟩
  | .hbm, ⟨40, _⟩ => ⟨S2x21x10, .f32⟩
  | .hbm, ⟨41, _⟩ => ⟨S1x1, .f32⟩
  | .local _ .vmem, ⟨0, _⟩ => ⟨S9x8x96, .bf16⟩
  | .local _ .vmem, ⟨1, _⟩ => ⟨S2x32x32768, .f32⟩
  | .local _ .smem, ⟨0, _⟩ => ⟨S2x21x10, .f32⟩
  | .local _ .smem, ⟨1, _⟩ => ⟨S1x1, .f32⟩
  | _, _ => ⟨S2x20x19, .f32⟩

abbrev bufScoped : (cs : CoreSpace) → Fin (nBuf (.core cs)) → Bool
  | .vmem, ⟨0, _⟩ => true
  | .vmem, ⟨1, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_call1_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg1_0 : Ref sig .tc := ⟨.vmem, 0, rfl⟩
abbrev cc0_stg2_0 : Ref sig .tc := ⟨.vmem, 1, rfl⟩
abbrev cc0_stg0_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .smem S2x21x10 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9x8x96 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x32x32768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x20x19 : Shape := ⟨3, ![2, 20, 19]⟩
abbrev S2x20 : Shape := ⟨2, ![2, 20]⟩
abbrev S2x32x32x32x32 : Shape := ⟨5, ![2, 32, 32, 32, 32]⟩
abbrev S7x32x3x3x3 : Shape := ⟨5, ![7, 32, 3, 3, 3]⟩
abbrev S7 : Shape := ⟨1, ![7]⟩
abbrev S_ : Shape := ⟨0, ![]⟩
abbrev S2x32x34x34x34 : Shape := ⟨5, ![2, 32, 34, 34, 34]⟩
abbrev S7x32x1x1x1 : Shape := ⟨5, ![7, 32, 1, 1, 1]⟩
abbrev S7x32 : Shape := ⟨2, ![7, 32]⟩
abbrev S2x32x32x32x7 : Shape := ⟨5, ![2, 32, 32, 32, 7]⟩
abbrev S2x7x32x32x32 : Shape := ⟨5, ![2, 7, 32, 32, 32]⟩
abbrev S1x7x1x1x1 : Shape := ⟨5, ![1, 7, 1, 1, 1]⟩
abbrev S2x32x32x32x1 : Shape := ⟨5, ![2, 32, 32, 32, 1]⟩
abbrev S2x32x32x32 : Shape := ⟨4, ![2, 32, 32, 32]⟩
abbrev S2x32x32x32x6 : Shape := ⟨5, ![2, 32, 32, 32, 6]⟩
abbrev S2x20x3 : Shape := ⟨3, ![2, 20, 3]⟩
abbrev S2x20x16 : Shape := ⟨3, ![2, 20, 16]⟩
abbrev S2x20x4x4 : Shape := ⟨4, ![2, 20, 4, 4]⟩
abbrev S2x20x3x3 : Shape := ⟨4, ![2, 20, 3, 3]⟩
abbrev S2x20x3x1 : Shape := ⟨4, ![2, 20, 3, 1]⟩
abbrev S2 : Shape := ⟨1, ![2]⟩
abbrev S2x2x2 : Shape := ⟨3, ![2, 2, 2]⟩
abbrev S2x2x2x1 : Shape := ⟨4, ![2, 2, 2, 1]⟩
abbrev S2x2x2x3 : Shape := ⟨4, ![2, 2, 2, 3]⟩
abbrev S8x3 : Shape := ⟨2, ![8, 3]⟩
abbrev S2x20x1x3 : Shape := ⟨4, ![2, 20, 1, 3]⟩
abbrev S1x1x8x3 : Shape := ⟨4, ![1, 1, 8, 3]⟩
abbrev S2x20x8x3 : Shape := ⟨4, ![2, 20, 8, 3]⟩
abbrev S2x20x3x2 : Shape := ⟨4, ![2, 20, 3, 2]⟩
abbrev S32 : Shape := ⟨1, ![32]⟩
abbrev S32x32x32 : Shape := ⟨3, ![32, 32, 32]⟩
abbrev S32x32x32x1 : Shape := ⟨4, ![32, 32, 32, 1]⟩
abbrev S32x32x32x3 : Shape := ⟨4, ![32, 32, 32, 3]⟩
abbrev S2x20x1x1x1x3 : Shape := ⟨6, ![2, 20, 1, 1, 1, 3]⟩
abbrev S1x1x32x32x32x3 : Shape := ⟨6, ![1, 1, 32, 32, 32, 3]⟩
abbrev S2x20x32x32x32x3 : Shape := ⟨6, ![2, 20, 32, 32, 32, 3]⟩
abbrev S2x20x1x1x1x1 : Shape := ⟨6, ![2, 20, 1, 1, 1, 1]⟩
abbrev S2x20x32x32x32x1 : Shape := ⟨6, ![2, 20, 32, 32, 32, 1]⟩
abbrev S2x20x32x32x32x6 : Shape := ⟨6, ![2, 20, 32, 32, 32, 6]⟩
abbrev S2x20x32x32x32 : Shape := ⟨5, ![2, 20, 32, 32, 32]⟩
abbrev S2x1x32x32x32x6 : Shape := ⟨6, ![2, 1, 32, 32, 32, 6]⟩
abbrev S2x1x32x32x32x1 : Shape := ⟨6, ![2, 1, 32, 32, 32, 1]⟩
abbrev S1x1 : Shape := ⟨2, ![1, 1]⟩

abbrev nBuf : Space → Nat
  | .hbm => 897
  | .vmem => 0
  | .smem => 0
  | _ => 0

abbrev hbmTy0_0 (i : Nat) : BufTy := match i % 128 with
  | 0 => ⟨S2x20x19, .f32⟩
  | 1 => ⟨S2x20, .f32⟩
  | 2 => ⟨S2x32x32x32x32, .f32⟩
  | 3 => ⟨S7x32x3x3x3, .f32⟩
  | 4 => ⟨S7, .f32⟩
  | 5 => ⟨S2x32x32x32x32, .f32⟩
  | 6 => ⟨S_, .i32⟩
  | 7 => ⟨S_, .f32⟩
  | 8 => ⟨S2x32x34x34x34, .f32⟩
  | 9 => ⟨S7x32x1x1x1, .f32⟩
  | 10 => ⟨S7x32, .f32⟩
  | 11 => ⟨S2x32x32x32x32, .f32⟩
  | 12 => ⟨S2x32x32x32x7, .f32⟩
  | 13 => ⟨S2x7x32x32x32, .f32⟩
  | 14 => ⟨S_, .f32⟩
  | 15 => ⟨S2x7x32x32x32, .f32⟩
  | 16 => ⟨S2x7x32x32x32, .f32⟩
  | 17 => ⟨S7x32x1x1x1, .f32⟩
  | 18 => ⟨S7x32, .f32⟩
  | 19 => ⟨S2x32x32x32x32, .f32⟩
  | 20 => ⟨S2x32x32x32x7, .f32⟩
  | 21 => ⟨S2x7x32x32x32, .f32⟩
  | 22 => ⟨S2x7x32x32x32, .f32⟩
  | 23 => ⟨S7x32x1x1x1, .f32⟩
  | 24 => ⟨S7x32, .f32⟩
  | 25 => ⟨S2x32x32x32x32, .f32⟩
  | 26 => ⟨S2x32x32x32x7, .f32⟩
  | 27 => ⟨S2x7x32x32x32, .f32⟩
  | 28 => ⟨S2x7x32x32x32, .f32⟩
  | 29 => ⟨S7x32x1x1x1, .f32⟩
  | 30 => ⟨S7x32, .f32⟩
  | 31 => ⟨S2x32x32x32x32, .f32⟩
  | 32 => ⟨S2x32x32x32x7, .f32⟩
  | 33 => ⟨S2x7x32x32x32, .f32⟩
  | 34 => ⟨S2x7x32x32x32, .f32⟩
  | 35 => ⟨S7x32x1x1x1, .f32⟩
  | 36 => ⟨S7x32, .f32⟩
  | 37 => ⟨S2x32x32x32x32, .f32⟩
  | 38 => ⟨S2x32x32x32x7, .f32⟩
  | 39 => ⟨S2x7x32x32x32, .f32⟩
  | 40 => ⟨S2x7x32x32x32, .f32⟩
  | 41 => ⟨S7x32x1x1x1, .f32⟩
  | 42 => ⟨S7x32, .f32⟩
  | 43 => ⟨S2x32x32x32x32, .f32⟩
  | 44 => ⟨S2x32x32x32x7, .f32⟩
  | 45 => ⟨S2x7x32x32x32, .f32⟩
  | 46 => ⟨S2x7x32x32x32, .f32⟩
  | 47 => ⟨S7x32x1x1x1, .f32⟩
  | 48 => ⟨S7x32, .f32⟩
  | 49 => ⟨S2x32x32x32x32, .f32⟩
  | 50 => ⟨S2x32x32x32x7, .f32⟩
  | 51 => ⟨S2x7x32x32x32, .f32⟩
  | 52 => ⟨S2x7x32x32x32, .f32⟩
  | 53 => ⟨S7x32x1x1x1, .f32⟩
  | 54 => ⟨S7x32, .f32⟩
  | 55 => ⟨S2x32x32x32x32, .f32⟩
  | 56 => ⟨S2x32x32x32x7, .f32⟩
  | 57 => ⟨S2x7x32x32x32, .f32⟩
  | 58 => ⟨S2x7x32x32x32, .f32⟩
  | 59 => ⟨S7x32x1x1x1, .f32⟩
  | 60 => ⟨S7x32, .f32⟩
  | 61 => ⟨S2x32x32x32x32, .f32⟩
  | 62 => ⟨S2x32x32x32x7, .f32⟩
  | 63 => ⟨S2x7x32x32x32, .f32⟩
  | 64 => ⟨S2x7x32x32x32, .f32⟩
  | 65 => ⟨S7x32x1x1x1, .f32⟩
  | 66 => ⟨S7x32, .f32⟩
  | 67 => ⟨S2x32x32x32x32, .f32⟩
  | 68 => ⟨S2x32x32x32x7, .f32⟩
  | 69 => ⟨S2x7x32x32x32, .f32⟩
  | 70 => ⟨S2x7x32x32x32, .f32⟩
  | 71 => ⟨S7x32x1x1x1, .f32⟩
  | 72 => ⟨S7x32, .f32⟩
  | 73 => ⟨S2x32x32x32x32, .f32⟩
  | 74 => ⟨S2x32x32x32x7, .f32⟩
  | 75 => ⟨S2x7x32x32x32, .f32⟩
  | 76 => ⟨S2x7x32x32x32, .f32⟩
  | 77 => ⟨S7x32x1x1x1, .f32⟩
  | 78 => ⟨S7x32, .f32⟩
  | 79 => ⟨S2x32x32x32x32, .f32⟩
  | 80 => ⟨S2x32x32x32x7, .f32⟩
  | 81 => ⟨S2x7x32x32x32, .f32⟩
  | 82 => ⟨S2x7x32x32x32, .f32⟩
  | 83 => ⟨S7x32x1x1x1, .f32⟩
  | 84 => ⟨S7x32, .f32⟩
  | 85 => ⟨S2x32x32x32x32, .f32⟩
  | 86 => ⟨S2x32x32x32x7, .f32⟩
  | 87 => ⟨S2x7x32x32x32, .f32⟩
  | 88 => ⟨S2x7x32x32x32, .f32⟩
  | 89 => ⟨S7x32x1x1x1, .f32⟩
  | 90 => ⟨S7x32, .f32⟩
  | 91 => ⟨S2x32x32x32x32, .f32⟩
  | 92 => ⟨S2x32x32x32x7, .f32⟩
  | 93 => ⟨S2x7x32x32x32, .f32⟩
  | 94 => ⟨S2x7x32x32x32, .f32⟩
  | 95 => ⟨S7x32x1x1x1, .f32⟩
  | 96 => ⟨S7x32, .f32⟩
  | 97 => ⟨S2x32x32x32x32, .f32⟩
  | 98 => ⟨S2x32x32x32x7, .f32⟩
  | 99 => ⟨S2x7x32x32x32, .f32⟩
  | 100 => ⟨S2x7x32x32x32, .f32⟩
  | 101 => ⟨S7x32x1x1x1, .f32⟩
  | 102 => ⟨S7x32, .f32⟩
  | 103 => ⟨S2x32x32x32x32, .f32⟩
  | 104 => ⟨S2x32x32x32x7, .f32⟩
  | 105 => ⟨S2x7x32x32x32, .f32⟩
  | 106 => ⟨S2x7x32x32x32, .f32⟩
  | 107 => ⟨S7x32x1x1x1, .f32⟩
  | 108 => ⟨S7x32, .f32⟩
  | 109 => ⟨S2x32x32x32x32, .f32⟩
  | 110 => ⟨S2x32x32x32x7, .f32⟩
  | 111 => ⟨S2x7x32x32x32, .f32⟩
  | 112 => ⟨S2x7x32x32x32, .f32⟩
  | 113 => ⟨S7x32x1x1x1, .f32⟩
  | 114 => ⟨S7x32, .f32⟩
  | 115 => ⟨S2x32x32x32x32, .f32⟩
  | 116 => ⟨S2x32x32x32x7, .f32⟩
  | 117 => ⟨S2x7x32x32x32, .f32⟩
  | 118 => ⟨S2x7x32x32x32, .f32⟩
  | 119 => ⟨S7x32x1x1x1, .f32⟩
  | 120 => ⟨S7x32, .f32⟩
  | 121 => ⟨S2x32x32x32x32, .f32⟩
  | 122 => ⟨S2x32x32x32x7, .f32⟩
  | 123 => ⟨S2x7x32x32x32, .f32⟩
  | 124 => ⟨S2x7x32x32x32, .f32⟩
  | 125 => ⟨S7x32x1x1x1, .f32⟩
  | 126 => ⟨S7x32, .f32⟩
  | 127 => ⟨S2x32x32x32x32, .f32⟩
  | _ => ⟨S2x20x19, .f32⟩

abbrev hbmTy0_1 (i : Nat) : BufTy := match i % 128 with
  | 0 => ⟨S2x32x32x32x7, .f32⟩
  | 1 => ⟨S2x7x32x32x32, .f32⟩
  | 2 => ⟨S2x7x32x32x32, .f32⟩
  | 3 => ⟨S7x32x1x1x1, .f32⟩
  | 4 => ⟨S7x32, .f32⟩
  | 5 => ⟨S2x32x32x32x32, .f32⟩
  | 6 => ⟨S2x32x32x32x7, .f32⟩
  | 7 => ⟨S2x7x32x32x32, .f32⟩
  | 8 => ⟨S2x7x32x32x32, .f32⟩
  | 9 => ⟨S7x32x1x1x1, .f32⟩
  | 10 => ⟨S7x32, .f32⟩
  | 11 => ⟨S2x32x32x32x32, .f32⟩
  | 12 => ⟨S2x32x32x32x7, .f32⟩
  | 13 => ⟨S2x7x32x32x32, .f32⟩
  | 14 => ⟨S2x7x32x32x32, .f32⟩
  | 15 => ⟨S7x32x1x1x1, .f32⟩
  | 16 => ⟨S7x32, .f32⟩
  | 17 => ⟨S2x32x32x32x32, .f32⟩
  | 18 => ⟨S2x32x32x32x7, .f32⟩
  | 19 => ⟨S2x7x32x32x32, .f32⟩
  | 20 => ⟨S2x7x32x32x32, .f32⟩
  | 21 => ⟨S7x32x1x1x1, .f32⟩
  | 22 => ⟨S7x32, .f32⟩
  | 23 => ⟨S2x32x32x32x32, .f32⟩
  | 24 => ⟨S2x32x32x32x7, .f32⟩
  | 25 => ⟨S2x7x32x32x32, .f32⟩
  | 26 => ⟨S2x7x32x32x32, .f32⟩
  | 27 => ⟨S7x32x1x1x1, .f32⟩
  | 28 => ⟨S7x32, .f32⟩
  | 29 => ⟨S2x32x32x32x32, .f32⟩
  | 30 => ⟨S2x32x32x32x7, .f32⟩
  | 31 => ⟨S2x7x32x32x32, .f32⟩
  | 32 => ⟨S2x7x32x32x32, .f32⟩
  | 33 => ⟨S7x32x1x1x1, .f32⟩
  | 34 => ⟨S7x32, .f32⟩
  | 35 => ⟨S2x32x32x32x32, .f32⟩
  | 36 => ⟨S2x32x32x32x7, .f32⟩
  | 37 => ⟨S2x7x32x32x32, .f32⟩
  | 38 => ⟨S2x7x32x32x32, .f32⟩
  | 39 => ⟨S7x32x1x1x1, .f32⟩
  | 40 => ⟨S7x32, .f32⟩
  | 41 => ⟨S2x32x32x32x32, .f32⟩
  | 42 => ⟨S2x32x32x32x7, .f32⟩
  | 43 => ⟨S2x7x32x32x32, .f32⟩
  | 44 => ⟨S2x7x32x32x32, .f32⟩
  | 45 => ⟨S1x7x1x1x1, .f32⟩
  | 46 => ⟨S2x7x32x32x32, .f32⟩
  | 47 => ⟨S2x7x32x32x32, .f32⟩
  | 48 => ⟨S2x32x32x32x7, .f32⟩
  | 49 => ⟨S2x32x32x32x1, .f32⟩
  | 50 => ⟨S2x32x32x32, .f32⟩
  | 51 => ⟨S2x32x32x32, .f32⟩
  | 52 => ⟨S2x32x32x32, .f32⟩
  | 53 => ⟨S_, .f32⟩
  | 54 => ⟨S2x32x32x32, .f32⟩
  | 55 => ⟨S2x32x32x32, .f32⟩
  | 56 => ⟨S_, .f32⟩
  | 57 => ⟨S2x32x32x32, .f32⟩
  | 58 => ⟨S2x32x32x32, .f32⟩
  | 59 => ⟨S2x32x32x32x6, .f32⟩
  | 60 => ⟨S2x20x3, .f32⟩
  | 61 => ⟨S2x20x16, .f32⟩
  | 62 => ⟨S2x20x4x4, .f32⟩
  | 63 => ⟨S2x20x3x3, .f32⟩
  | 64 => ⟨S2x20x3x1, .f32⟩
  | 65 => ⟨S2x20x3, .f32⟩
  | 66 => ⟨S2, .i32⟩
  | 67 => ⟨S2, .f32⟩
  | 68 => ⟨S_, .f32⟩
  | 69 => ⟨S2, .f32⟩
  | 70 => ⟨S2, .f32⟩
  | 71 => ⟨S_, .f32⟩
  | 72 => ⟨S2, .f32⟩
  | 73 => ⟨S2, .f32⟩
  | 74 => ⟨S2x2x2, .f32⟩
  | 75 => ⟨S2x2x2, .f32⟩
  | 76 => ⟨S2x2x2, .f32⟩
  | 77 => ⟨S2x2x2x1, .f32⟩
  | 78 => ⟨S2x2x2x1, .f32⟩
  | 79 => ⟨S2x2x2x1, .f32⟩
  | 80 => ⟨S2x2x2x3, .f32⟩
  | 81 => ⟨S8x3, .f32⟩
  | 82 => ⟨S_, .f32⟩
  | 83 => ⟨S8x3, .f32⟩
  | 84 => ⟨S8x3, .f32⟩
  | 85 => ⟨S2x20x1x3, .f32⟩
  | 86 => ⟨S1x1x8x3, .f32⟩
  | 87 => ⟨S2x20x8x3, .f32⟩
  | 88 => ⟨S2x20x8x3, .f32⟩
  | 89 => ⟨S2x20x8x3, .f32⟩
  | 90 => ⟨S2x20x8x3, .f32⟩
  | 91 => ⟨S2x20x1x3, .f32⟩
  | 92 => ⟨S2x20x8x3, .f32⟩
  | 93 => ⟨S2x20x8x3, .f32⟩
  | 94 => ⟨S_, .f32⟩
  | 95 => ⟨S2x20x3, .f32⟩
  | 96 => ⟨S_, .f32⟩
  | 97 => ⟨S2x20x3, .f32⟩
  | 98 => ⟨S2x20x3x1, .f32⟩
  | 99 => ⟨S2x20x3x1, .f32⟩
  | 100 => ⟨S2x20x3x2, .f32⟩
  | 101 => ⟨S32, .i32⟩
  | 102 => ⟨S32, .i32⟩
  | 103 => ⟨S32, .i32⟩
  | 104 => ⟨S32x32x32, .i32⟩
  | 105 => ⟨S32x32x32, .i32⟩
  | 106 => ⟨S32x32x32, .i32⟩
  | 107 => ⟨S32x32x32x1, .i32⟩
  | 108 => ⟨S32x32x32x1, .i32⟩
  | 109 => ⟨S32x32x32x1, .i32⟩
  | 110 => ⟨S32x32x32x3, .i32⟩
  | 111 => ⟨S32x32x32x3, .f32⟩
  | 112 => ⟨S2x20x1x1x1x3, .f32⟩
  | 113 => ⟨S1x1x32x32x32x3, .f32⟩
  | 114 => ⟨S2x20x32x32x32x3, .f32⟩
  | 115 => ⟨S2x20x32x32x32x3, .f32⟩
  | 116 => ⟨S2x20x32x32x32x3, .f32⟩
  | 117 => ⟨S_, .f32⟩
  | 118 => ⟨S2x20x32x32x32x3, .f32⟩
  | 119 => ⟨S2x20x32x32x32x3, .f32⟩
  | 120 => ⟨S_, .f32⟩
  | 121 => ⟨S2x20x3, .f32⟩
  | 122 => ⟨S2x20x3, .f32⟩
  | 123 => ⟨S2x20x3, .f32⟩
  | 124 => ⟨S_, .f32⟩
  | 125 => ⟨S2x20x3, .f32⟩
  | 126 => ⟨S_, .f32⟩
  | 127 => ⟨S2x20x3, .f32⟩
  | _ => ⟨S2x20x19, .f32⟩

abbrev hbmTy0_2 (i : Nat) : BufTy := match i % 128 with
  | 0 => ⟨S2x20x3, .f32⟩
  | 1 => ⟨S2x20x3, .f32⟩
  | 2 => ⟨S2x20x1x1x1x3, .f32⟩
  | 3 => ⟨S2x20x32x32x32x3, .f32⟩
  | 4 => ⟨S2x20x1x1x1x3, .f32⟩
  | 5 => ⟨S2x20x32x32x32x3, .f32⟩
  | 6 => ⟨S2x20x1x1x1x1, .f32⟩
  | 7 => ⟨S2x20x32x32x32x1, .f32⟩
  | 8 => ⟨S2x20x32x32x32x6, .f32⟩
  | 9 => ⟨S2x20x32x32x32x3, .f32⟩
  | 10 => ⟨S_, .f32⟩
  | 11 => ⟨S2x20x32x32x32x3, .f32⟩
  | 12 => ⟨S2x20x32x32x32x3, .f32⟩
  | 13 => ⟨S_, .f32⟩
  | 14 => ⟨S2x20x32x32x32x3, .f32⟩
  | 15 => ⟨S2x20x32x32x32x3, .f32⟩
  | 16 => ⟨S2x20x32x32x32x3, .f32⟩
  | 17 => ⟨S_, .f32⟩
  | 18 => ⟨S2x20x32x32x32, .f32⟩
  | 19 => ⟨S_, .f32⟩
  | 20 => ⟨S2x20x32x32x32, .f32⟩
  | 21 => ⟨S_, .f32⟩
  | 22 => ⟨S2x20x32x32x32, .f32⟩
  | 23 => ⟨S2x20x32x32x32, .i1⟩
  | 24 => ⟨S_, .f32⟩
  | 25 => ⟨S2x20x32x32x32, .f32⟩
  | 26 => ⟨S_, .f32⟩
  | 27 => ⟨S2x20x32x32x32, .f32⟩
  | 28 => ⟨S2x20x32x32x32, .f32⟩
  | 29 => ⟨S2x20x32x32x32, .f32⟩
  | 30 => ⟨S2x20x32x32x32x1, .f32⟩
  | 31 => ⟨S2x20x32x32x32x1, .f32⟩
  | 32 => ⟨S_, .f32⟩
  | 33 => ⟨S2x20x32x32x32, .f32⟩
  | 34 => ⟨S_, .f32⟩
  | 35 => ⟨S2x20x32x32x32, .f32⟩
  | 36 => ⟨S2x20x32x32x32, .i1⟩
  | 37 => ⟨S_, .f32⟩
  | 38 => ⟨S2x20x32x32x32, .f32⟩
  | 39 => ⟨S_, .f32⟩
  | 40 => ⟨S2x20x32x32x32, .f32⟩
  | 41 => ⟨S2x20x32x32x32, .f32⟩
  | 42 => ⟨S2x20x32x32x32, .f32⟩
  | 43 => ⟨S2x20x32x32x32, .f32⟩
  | 44 => ⟨S2x20x32x32x32, .f32⟩
  | 45 => ⟨S2x1x32x32x32x6, .f32⟩
  | 46 => ⟨S2x32x32x32x6, .f32⟩
  | 47 => ⟨S2x1x32x32x32x1, .f32⟩
  | 48 => ⟨S2x32x32x32x1, .f32⟩
  | 49 => ⟨S2x32x32x32x6, .f32⟩
  | 50 => ⟨S2x32x32x32x6, .f32⟩
  | 51 => ⟨S2x1x32x32x32x1, .f32⟩
  | 52 => ⟨S2x32x32x32x1, .f32⟩
  | 53 => ⟨S2x1x32x32x32x1, .f32⟩
  | 54 => ⟨S2x32x32x32x1, .f32⟩
  | 55 => ⟨S2x32x32x32x1, .f32⟩
  | 56 => ⟨S_, .f32⟩
  | 57 => ⟨S2x32x32x32x1, .f32⟩
  | 58 => ⟨S2x32x32x32x1, .f32⟩
  | 59 => ⟨S2x1x32x32x32x6, .f32⟩
  | 60 => ⟨S2x32x32x32x6, .f32⟩
  | 61 => ⟨S2x32x32x32x6, .f32⟩
  | 62 => ⟨S2x32x32x32x6, .f32⟩
  | 63 => ⟨S2x1x32x32x32x1, .f32⟩
  | 64 => ⟨S2x32x32x32x1, .f32⟩
  | 65 => ⟨S2x32x32x32x6, .f32⟩
  | 66 => ⟨S2x32x32x32x6, .f32⟩
  | 67 => ⟨S2x32x32x32x6, .f32⟩
  | 68 => ⟨S2x1x32x32x32x1, .f32⟩
  | 69 => ⟨S2x32x32x32x1, .f32⟩
  | 70 => ⟨S2x32x32x32x1, .f32⟩
  | 71 => ⟨S_, .f32⟩
  | 72 => ⟨S2x32x32x32x1, .f32⟩
  | 73 => ⟨S2x32x32x32x1, .i1⟩
  | 74 => ⟨S_, .f32⟩
  | 75 => ⟨S2x32x32x32x1, .f32⟩
  | 76 => ⟨S_, .f32⟩
  | 77 => ⟨S2x32x32x32x1, .f32⟩
  | 78 => ⟨S2x32x32x32x1, .f32⟩
  | 79 => ⟨S2x1x32x32x32x1, .f32⟩
  | 80 => ⟨S2x32x32x32x1, .f32⟩
  | 81 => ⟨S2x32x32x32x1, .f32⟩
  | 82 => ⟨S_, .f32⟩
  | 83 => ⟨S2x32x32x32x1, .f32⟩
  | 84 => ⟨S2x32x32x32x1, .f32⟩
  | 85 => ⟨S2x1x32x32x32x6, .f32⟩
  | 86 => ⟨S2x32x32x32x6, .f32⟩
  | 87 => ⟨S2x32x32x32x6, .f32⟩
  | 88 => ⟨S2x32x32x32x6, .f32⟩
  | 89 => ⟨S2x1x32x32x32x1, .f32⟩
  | 90 => ⟨S2x32x32x32x1, .f32⟩
  | 91 => ⟨S2x32x32x32x6, .f32⟩
  | 92 => ⟨S2x32x32x32x6, .f32⟩
  | 93 => ⟨S2x32x32x32x6, .f32⟩
  | 94 => ⟨S2x1x32x32x32x1, .f32⟩
  | 95 => ⟨S2x32x32x32x1, .f32⟩
  | 96 => ⟨S2x32x32x32x1, .f32⟩
  | 97 => ⟨S_, .f32⟩
  | 98 => ⟨S2x32x32x32x1, .f32⟩
  | 99 => ⟨S2x32x32x32x1, .i1⟩
  | 100 => ⟨S_, .f32⟩
  | 101 => ⟨S2x32x32x32x1, .f32⟩
  | 102 => ⟨S_, .f32⟩
  | 103 => ⟨S2x32x32x32x1, .f32⟩
  | 104 => ⟨S2x32x32x32x1, .f32⟩
  | 105 => ⟨S2x1x32x32x32x1, .f32⟩
  | 106 => ⟨S2x32x32x32x1, .f32⟩
  | 107 => ⟨S2x32x32x32x1, .f32⟩
  | 108 => ⟨S_, .f32⟩
  | 109 => ⟨S2x32x32x32x1, .f32⟩
  | 110 => ⟨S2x32x32x32x1, .f32⟩
  | 111 => ⟨S2x1x32x32x32x6, .f32⟩
  | 112 => ⟨S2x32x32x32x6, .f32⟩
  | 113 => ⟨S2x32x32x32x6, .f32⟩
  | 114 => ⟨S2x32x32x32x6, .f32⟩
  | 115 => ⟨S2x1x32x32x32x1, .f32⟩
  | 116 => ⟨S2x32x32x32x1, .f32⟩
  | 117 => ⟨S2x32x32x32x6, .f32⟩
  | 118 => ⟨S2x32x32x32x6, .f32⟩
  | 119 => ⟨S2x32x32x32x6, .f32⟩
  | 120 => ⟨S2x1x32x32x32x1, .f32⟩
  | 121 => ⟨S2x32x32x32x1, .f32⟩
  | 122 => ⟨S2x32x32x32x1, .f32⟩
  | 123 => ⟨S_, .f32⟩
  | 124 => ⟨S2x32x32x32x1, .f32⟩
  | 125 => ⟨S2x32x32x32x1, .i1⟩
  | 126 => ⟨S_, .f32⟩
  | 127 => ⟨S2x32x32x32x1, .f32⟩
  | _ => ⟨S2x20x19, .f32⟩

abbrev hbmTy0_3 (i : Nat) : BufTy := match i % 128 with
  | 0 => ⟨S_, .f32⟩
  | 1 => ⟨S2x32x32x32x1, .f32⟩
  | 2 => ⟨S2x32x32x32x1, .f32⟩
  | 3 => ⟨S2x1x32x32x32x1, .f32⟩
  | 4 => ⟨S2x32x32x32x1, .f32⟩
  | 5 => ⟨S2x32x32x32x1, .f32⟩
  | 6 => ⟨S_, .f32⟩
  | 7 => ⟨S2x32x32x32x1, .f32⟩
  | 8 => ⟨S2x32x32x32x1, .f32⟩
  | 9 => ⟨S2x1x32x32x32x6, .f32⟩
  | 10 => ⟨S2x32x32x32x6, .f32⟩
  | 11 => ⟨S2x32x32x32x6, .f32⟩
  | 12 => ⟨S2x32x32x32x6, .f32⟩
  | 13 => ⟨S2x1x32x32x32x1, .f32⟩
  | 14 => ⟨S2x32x32x32x1, .f32⟩
  | 15 => ⟨S2x32x32x32x6, .f32⟩
  | 16 => ⟨S2x32x32x32x6, .f32⟩
  | 17 => ⟨S2x32x32x32x6, .f32⟩
  | 18 => ⟨S2x1x32x32x32x1, .f32⟩
  | 19 => ⟨S2x32x32x32x1, .f32⟩
  | 20 => ⟨S2x32x32x32x1, .f32⟩
  | 21 => ⟨S_, .f32⟩
  | 22 => ⟨S2x32x32x32x1, .f32⟩
  | 23 => ⟨S2x32x32x32x1, .i1⟩
  | 24 => ⟨S_, .f32⟩
  | 25 => ⟨S2x32x32x32x1, .f32⟩
  | 26 => ⟨S_, .f32⟩
  | 27 => ⟨S2x32x32x32x1, .f32⟩
  | 28 => ⟨S2x32x32x32x1, .f32⟩
  | 29 => ⟨S2x1x32x32x32x1, .f32⟩
  | 30 => ⟨S2x32x32x32x1, .f32⟩
  | 31 => ⟨S2x32x32x32x1, .f32⟩
  | 32 => ⟨S_, .f32⟩
  | 33 => ⟨S2x32x32x32x1, .f32⟩
  | 34 => ⟨S2x32x32x32x1, .f32⟩
  | 35 => ⟨S2x1x32x32x32x6, .f32⟩
  | 36 => ⟨S2x32x32x32x6, .f32⟩
  | 37 => ⟨S2x32x32x32x6, .f32⟩
  | 38 => ⟨S2x32x32x32x6, .f32⟩
  | 39 => ⟨S2x1x32x32x32x1, .f32⟩
  | 40 => ⟨S2x32x32x32x1, .f32⟩
  | 41 => ⟨S2x32x32x32x6, .f32⟩
  | 42 => ⟨S2x32x32x32x6, .f32⟩
  | 43 => ⟨S2x32x32x32x6, .f32⟩
  | 44 => ⟨S2x1x32x32x32x1, .f32⟩
  | 45 => ⟨S2x32x32x32x1, .f32⟩
  | 46 => ⟨S2x32x32x32x1, .f32⟩
  | 47 => ⟨S_, .f32⟩
  | 48 => ⟨S2x32x32x32x1, .f32⟩
  | 49 => ⟨S2x32x32x32x1, .i1⟩
  | 50 => ⟨S_, .f32⟩
  | 51 => ⟨S2x32x32x32x1, .f32⟩
  | 52 => ⟨S_, .f32⟩
  | 53 => ⟨S2x32x32x32x1, .f32⟩
  | 54 => ⟨S2x32x32x32x1, .f32⟩
  | 55 => ⟨S2x1x32x32x32x1, .f32⟩
  | 56 => ⟨S2x32x32x32x1, .f32⟩
  | 57 => ⟨S2x32x32x32x1, .f32⟩
  | 58 => ⟨S_, .f32⟩
  | 59 => ⟨S2x32x32x32x1, .f32⟩
  | 60 => ⟨S2x32x32x32x1, .f32⟩
  | 61 => ⟨S2x1x32x32x32x6, .f32⟩
  | 62 => ⟨S2x32x32x32x6, .f32⟩
  | 63 => ⟨S2x32x32x32x6, .f32⟩
  | 64 => ⟨S2x32x32x32x6, .f32⟩
  | 65 => ⟨S2x1x32x32x32x1, .f32⟩
  | 66 => ⟨S2x32x32x32x1, .f32⟩
  | 67 => ⟨S2x32x32x32x6, .f32⟩
  | 68 => ⟨S2x32x32x32x6, .f32⟩
  | 69 => ⟨S2x32x32x32x6, .f32⟩
  | 70 => ⟨S2x1x32x32x32x1, .f32⟩
  | 71 => ⟨S2x32x32x32x1, .f32⟩
  | 72 => ⟨S2x32x32x32x1, .f32⟩
  | 73 => ⟨S_, .f32⟩
  | 74 => ⟨S2x32x32x32x1, .f32⟩
  | 75 => ⟨S2x32x32x32x1, .i1⟩
  | 76 => ⟨S_, .f32⟩
  | 77 => ⟨S2x32x32x32x1, .f32⟩
  | 78 => ⟨S_, .f32⟩
  | 79 => ⟨S2x32x32x32x1, .f32⟩
  | 80 => ⟨S2x32x32x32x1, .f32⟩
  | 81 => ⟨S2x1x32x32x32x1, .f32⟩
  | 82 => ⟨S2x32x32x32x1, .f32⟩
  | 83 => ⟨S2x32x32x32x1, .f32⟩
  | 84 => ⟨S_, .f32⟩
  | 85 => ⟨S2x32x32x32x1, .f32⟩
  | 86 => ⟨S2x32x32x32x1, .f32⟩
  | 87 => ⟨S2x1x32x32x32x6, .f32⟩
  | 88 => ⟨S2x32x32x32x6, .f32⟩
  | 89 => ⟨S2x32x32x32x6, .f32⟩
  | 90 => ⟨S2x32x32x32x6, .f32⟩
  | 91 => ⟨S2x1x32x32x32x1, .f32⟩
  | 92 => ⟨S2x32x32x32x1, .f32⟩
  | 93 => ⟨S2x32x32x32x6, .f32⟩
  | 94 => ⟨S2x32x32x32x6, .f32⟩
  | 95 => ⟨S2x32x32x32x6, .f32⟩
  | 96 => ⟨S2x1x32x32x32x1, .f32⟩
  | 97 => ⟨S2x32x32x32x1, .f32⟩
  | 98 => ⟨S2x32x32x32x1, .f32⟩
  | 99 => ⟨S_, .f32⟩
  | 100 => ⟨S2x32x32x32x1, .f32⟩
  | 101 => ⟨S2x32x32x32x1, .i1⟩
  | 102 => ⟨S_, .f32⟩
  | 103 => ⟨S2x32x32x32x1, .f32⟩
  | 104 => ⟨S_, .f32⟩
  | 105 => ⟨S2x32x32x32x1, .f32⟩
  | 106 => ⟨S2x32x32x32x1, .f32⟩
  | 107 => ⟨S2x1x32x32x32x1, .f32⟩
  | 108 => ⟨S2x32x32x32x1, .f32⟩
  | 109 => ⟨S2x32x32x32x1, .f32⟩
  | 110 => ⟨S_, .f32⟩
  | 111 => ⟨S2x32x32x32x1, .f32⟩
  | 112 => ⟨S2x32x32x32x1, .f32⟩
  | 113 => ⟨S2x1x32x32x32x6, .f32⟩
  | 114 => ⟨S2x32x32x32x6, .f32⟩
  | 115 => ⟨S2x32x32x32x6, .f32⟩
  | 116 => ⟨S2x32x32x32x6, .f32⟩
  | 117 => ⟨S2x1x32x32x32x1, .f32⟩
  | 118 => ⟨S2x32x32x32x1, .f32⟩
  | 119 => ⟨S2x32x32x32x6, .f32⟩
  | 120 => ⟨S2x32x32x32x6, .f32⟩
  | 121 => ⟨S2x32x32x32x6, .f32⟩
  | 122 => ⟨S2x1x32x32x32x1, .f32⟩
  | 123 => ⟨S2x32x32x32x1, .f32⟩
  | 124 => ⟨S2x32x32x32x1, .f32⟩
  | 125 => ⟨S_, .f32⟩
  | 126 => ⟨S2x32x32x32x1, .f32⟩
  | 127 => ⟨S2x32x32x32x1, .i1⟩
  | _ => ⟨S2x20x19, .f32⟩

abbrev hbmTy0_4 (i : Nat) : BufTy := match i % 128 with
  | 0 => ⟨S_, .f32⟩
  | 1 => ⟨S2x32x32x32x1, .f32⟩
  | 2 => ⟨S_, .f32⟩
  | 3 => ⟨S2x32x32x32x1, .f32⟩
  | 4 => ⟨S2x32x32x32x1, .f32⟩
  | 5 => ⟨S2x1x32x32x32x1, .f32⟩
  | 6 => ⟨S2x32x32x32x1, .f32⟩
  | 7 => ⟨S2x32x32x32x1, .f32⟩
  | 8 => ⟨S_, .f32⟩
  | 9 => ⟨S2x32x32x32x1, .f32⟩
  | 10 => ⟨S2x32x32x32x1, .f32⟩
  | 11 => ⟨S2x1x32x32x32x6, .f32⟩
  | 12 => ⟨S2x32x32x32x6, .f32⟩
  | 13 => ⟨S2x32x32x32x6, .f32⟩
  | 14 => ⟨S2x32x32x32x6, .f32⟩
  | 15 => ⟨S2x1x32x32x32x1, .f32⟩
  | 16 => ⟨S2x32x32x32x1, .f32⟩
  | 17 => ⟨S2x32x32x32x6, .f32⟩
  | 18 => ⟨S2x32x32x32x6, .f32⟩
  | 19 => ⟨S2x32x32x32x6, .f32⟩
  | 20 => ⟨S2x1x32x32x32x1, .f32⟩
  | 21 => ⟨S2x32x32x32x1, .f32⟩
  | 22 => ⟨S2x32x32x32x1, .f32⟩
  | 23 => ⟨S_, .f32⟩
  | 24 => ⟨S2x32x32x32x1, .f32⟩
  | 25 => ⟨S2x32x32x32x1, .i1⟩
  | 26 => ⟨S_, .f32⟩
  | 27 => ⟨S2x32x32x32x1, .f32⟩
  | 28 => ⟨S_, .f32⟩
  | 29 => ⟨S2x32x32x32x1, .f32⟩
  | 30 => ⟨S2x32x32x32x1, .f32⟩
  | 31 => ⟨S2x1x32x32x32x1, .f32⟩
  | 32 => ⟨S2x32x32x32x1, .f32⟩
  | 33 => ⟨S2x32x32x32x1, .f32⟩
  | 34 => ⟨S_, .f32⟩
  | 35 => ⟨S2x32x32x32x1, .f32⟩
  | 36 => ⟨S2x32x32x32x1, .f32⟩
  | 37 => ⟨S2x1x32x32x32x6, .f32⟩
  | 38 => ⟨S2x32x32x32x6, .f32⟩
  | 39 => ⟨S2x32x32x32x6, .f32⟩
  | 40 => ⟨S2x32x32x32x6, .f32⟩
  | 41 => ⟨S2x1x32x32x32x1, .f32⟩
  | 42 => ⟨S2x32x32x32x1, .f32⟩
  | 43 => ⟨S2x32x32x32x6, .f32⟩
  | 44 => ⟨S2x32x32x32x6, .f32⟩
  | 45 => ⟨S2x32x32x32x6, .f32⟩
  | 46 => ⟨S2x1x32x32x32x1, .f32⟩
  | 47 => ⟨S2x32x32x32x1, .f32⟩
  | 48 => ⟨S2x32x32x32x1, .f32⟩
  | 49 => ⟨S_, .f32⟩
  | 50 => ⟨S2x32x32x32x1, .f32⟩
  | 51 => ⟨S2x32x32x32x1, .i1⟩
  | 52 => ⟨S_, .f32⟩
  | 53 => ⟨S2x32x32x32x1, .f32⟩
  | 54 => ⟨S_, .f32⟩
  | 55 => ⟨S2x32x32x32x1, .f32⟩
  | 56 => ⟨S2x32x32x32x1, .f32⟩
  | 57 => ⟨S2x1x32x32x32x1, .f32⟩
  | 58 => ⟨S2x32x32x32x1, .f32⟩
  | 59 => ⟨S2x32x32x32x1, .f32⟩
  | 60 => ⟨S_, .f32⟩
  | 61 => ⟨S2x32x32x32x1, .f32⟩
  | 62 => ⟨S2x32x32x32x1, .f32⟩
  | 63 => ⟨S2x1x32x32x32x6, .f32⟩
  | 64 => ⟨S2x32x32x32x6, .f32⟩
  | 65 => ⟨S2x32x32x32x6, .f32⟩
  | 66 => ⟨S2x32x32x32x6, .f32⟩
  | 67 => ⟨S2x1x32x32x32x1, .f32⟩
  | 68 => ⟨S2x32x32x32x1, .f32⟩
  | 69 => ⟨S2x32x32x32x6, .f32⟩
  | 70 => ⟨S2x32x32x32x6, .f32⟩
  | 71 => ⟨S2x32x32x32x6, .f32⟩
  | 72 => ⟨S2x1x32x32x32x1, .f32⟩
  | 73 => ⟨S2x32x32x32x1, .f32⟩
  | 74 => ⟨S2x32x32x32x1, .f32⟩
  | 75 => ⟨S_, .f32⟩
  | 76 => ⟨S2x32x32x32x1, .f32⟩
  | 77 => ⟨S2x32x32x32x1, .i1⟩
  | 78 => ⟨S_, .f32⟩
  | 79 => ⟨S2x32x32x32x1, .f32⟩
  | 80 => ⟨S_, .f32⟩
  | 81 => ⟨S2x32x32x32x1, .f32⟩
  | 82 => ⟨S2x32x32x32x1, .f32⟩
  | 83 => ⟨S2x1x32x32x32x1, .f32⟩
  | 84 => ⟨S2x32x32x32x1, .f32⟩
  | 85 => ⟨S2x32x32x32x1, .f32⟩
  | 86 => ⟨S_, .f32⟩
  | 87 => ⟨S2x32x32x32x1, .f32⟩
  | 88 => ⟨S2x32x32x32x1, .f32⟩
  | 89 => ⟨S2x1x32x32x32x6, .f32⟩
  | 90 => ⟨S2x32x32x32x6, .f32⟩
  | 91 => ⟨S2x32x32x32x6, .f32⟩
  | 92 => ⟨S2x32x32x32x6, .f32⟩
  | 93 => ⟨S2x1x32x32x32x1, .f32⟩
  | 94 => ⟨S2x32x32x32x1, .f32⟩
  | 95 => ⟨S2x32x32x32x6, .f32⟩
  | 96 => ⟨S2x32x32x32x6, .f32⟩
  | 97 => ⟨S2x32x32x32x6, .f32⟩
  | 98 => ⟨S2x1x32x32x32x1, .f32⟩
  | 99 => ⟨S2x32x32x32x1, .f32⟩
  | 100 => ⟨S2x32x32x32x1, .f32⟩
  | 101 => ⟨S_, .f32⟩
  | 102 => ⟨S2x32x32x32x1, .f32⟩
  | 103 => ⟨S2x32x32x32x1, .i1⟩
  | 104 => ⟨S_, .f32⟩
  | 105 => ⟨S2x32x32x32x1, .f32⟩
  | 106 => ⟨S_, .f32⟩
  | 107 => ⟨S2x32x32x32x1, .f32⟩
  | 108 => ⟨S2x32x32x32x1, .f32⟩
  | 109 => ⟨S2x1x32x32x32x1, .f32⟩
  | 110 => ⟨S2x32x32x32x1, .f32⟩
  | 111 => ⟨S2x32x32x32x1, .f32⟩
  | 112 => ⟨S_, .f32⟩
  | 113 => ⟨S2x32x32x32x1, .f32⟩
  | 114 => ⟨S2x32x32x32x1, .f32⟩
  | 115 => ⟨S2x1x32x32x32x6, .f32⟩
  | 116 => ⟨S2x32x32x32x6, .f32⟩
  | 117 => ⟨S2x32x32x32x6, .f32⟩
  | 118 => ⟨S2x32x32x32x6, .f32⟩
  | 119 => ⟨S2x1x32x32x32x1, .f32⟩
  | 120 => ⟨S2x32x32x32x1, .f32⟩
  | 121 => ⟨S2x32x32x32x6, .f32⟩
  | 122 => ⟨S2x32x32x32x6, .f32⟩
  | 123 => ⟨S2x32x32x32x6, .f32⟩
  | 124 => ⟨S2x1x32x32x32x1, .f32⟩
  | 125 => ⟨S2x32x32x32x1, .f32⟩
  | 126 => ⟨S2x32x32x32x1, .f32⟩
  | 127 => ⟨S_, .f32⟩
  | _ => ⟨S2x20x19, .f32⟩

abbrev hbmTy0_5 (i : Nat) : BufTy := match i % 128 with
  | 0 => ⟨S2x32x32x32x1, .f32⟩
  | 1 => ⟨S2x32x32x32x1, .i1⟩
  | 2 => ⟨S_, .f32⟩
  | 3 => ⟨S2x32x32x32x1, .f32⟩
  | 4 => ⟨S_, .f32⟩
  | 5 => ⟨S2x32x32x32x1, .f32⟩
  | 6 => ⟨S2x32x32x32x1, .f32⟩
  | 7 => ⟨S2x1x32x32x32x1, .f32⟩
  | 8 => ⟨S2x32x32x32x1, .f32⟩
  | 9 => ⟨S2x32x32x32x1, .f32⟩
  | 10 => ⟨S_, .f32⟩
  | 11 => ⟨S2x32x32x32x1, .f32⟩
  | 12 => ⟨S2x32x32x32x1, .f32⟩
  | 13 => ⟨S2x1x32x32x32x6, .f32⟩
  | 14 => ⟨S2x32x32x32x6, .f32⟩
  | 15 => ⟨S2x32x32x32x6, .f32⟩
  | 16 => ⟨S2x32x32x32x6, .f32⟩
  | 17 => ⟨S2x1x32x32x32x1, .f32⟩
  | 18 => ⟨S2x32x32x32x1, .f32⟩
  | 19 => ⟨S2x32x32x32x6, .f32⟩
  | 20 => ⟨S2x32x32x32x6, .f32⟩
  | 21 => ⟨S2x32x32x32x6, .f32⟩
  | 22 => ⟨S2x1x32x32x32x1, .f32⟩
  | 23 => ⟨S2x32x32x32x1, .f32⟩
  | 24 => ⟨S2x32x32x32x1, .f32⟩
  | 25 => ⟨S_, .f32⟩
  | 26 => ⟨S2x32x32x32x1, .f32⟩
  | 27 => ⟨S2x32x32x32x1, .i1⟩
  | 28 => ⟨S_, .f32⟩
  | 29 => ⟨S2x32x32x32x1, .f32⟩
  | 30 => ⟨S_, .f32⟩
  | 31 => ⟨S2x32x32x32x1, .f32⟩
  | 32 => ⟨S2x32x32x32x1, .f32⟩
  | 33 => ⟨S2x1x32x32x32x1, .f32⟩
  | 34 => ⟨S2x32x32x32x1, .f32⟩
  | 35 => ⟨S2x32x32x32x1, .f32⟩
  | 36 => ⟨S_, .f32⟩
  | 37 => ⟨S2x32x32x32x1, .f32⟩
  | 38 => ⟨S2x32x32x32x1, .f32⟩
  | 39 => ⟨S2x1x32x32x32x6, .f32⟩
  | 40 => ⟨S2x32x32x32x6, .f32⟩
  | 41 => ⟨S2x32x32x32x6, .f32⟩
  | 42 => ⟨S2x32x32x32x6, .f32⟩
  | 43 => ⟨S2x1x32x32x32x1, .f32⟩
  | 44 => ⟨S2x32x32x32x1, .f32⟩
  | 45 => ⟨S2x32x32x32x6, .f32⟩
  | 46 => ⟨S2x32x32x32x6, .f32⟩
  | 47 => ⟨S2x32x32x32x6, .f32⟩
  | 48 => ⟨S2x1x32x32x32x1, .f32⟩
  | 49 => ⟨S2x32x32x32x1, .f32⟩
  | 50 => ⟨S2x32x32x32x1, .f32⟩
  | 51 => ⟨S_, .f32⟩
  | 52 => ⟨S2x32x32x32x1, .f32⟩
  | 53 => ⟨S2x32x32x32x1, .i1⟩
  | 54 => ⟨S_, .f32⟩
  | 55 => ⟨S2x32x32x32x1, .f32⟩
  | 56 => ⟨S_, .f32⟩
  | 57 => ⟨S2x32x32x32x1, .f32⟩
  | 58 => ⟨S2x32x32x32x1, .f32⟩
  | 59 => ⟨S2x1x32x32x32x1, .f32⟩
  | 60 => ⟨S2x32x32x32x1, .f32⟩
  | 61 => ⟨S2x32x32x32x1, .f32⟩
  | 62 => ⟨S_, .f32⟩
  | 63 => ⟨S2x32x32x32x1, .f32⟩
  | 64 => ⟨S2x32x32x32x1, .f32⟩
  | 65 => ⟨S2x1x32x32x32x6, .f32⟩
  | 66 => ⟨S2x32x32x32x6, .f32⟩
  | 67 => ⟨S2x32x32x32x6, .f32⟩
  | 68 => ⟨S2x32x32x32x6, .f32⟩
  | 69 => ⟨S2x1x32x32x32x1, .f32⟩
  | 70 => ⟨S2x32x32x32x1, .f32⟩
  | 71 => ⟨S2x32x32x32x6, .f32⟩
  | 72 => ⟨S2x32x32x32x6, .f32⟩
  | 73 => ⟨S2x32x32x32x6, .f32⟩
  | 74 => ⟨S2x1x32x32x32x1, .f32⟩
  | 75 => ⟨S2x32x32x32x1, .f32⟩
  | 76 => ⟨S2x32x32x32x1, .f32⟩
  | 77 => ⟨S_, .f32⟩
  | 78 => ⟨S2x32x32x32x1, .f32⟩
  | 79 => ⟨S2x32x32x32x1, .i1⟩
  | 80 => ⟨S_, .f32⟩
  | 81 => ⟨S2x32x32x32x1, .f32⟩
  | 82 => ⟨S_, .f32⟩
  | 83 => ⟨S2x32x32x32x1, .f32⟩
  | 84 => ⟨S2x32x32x32x1, .f32⟩
  | 85 => ⟨S2x1x32x32x32x1, .f32⟩
  | 86 => ⟨S2x32x32x32x1, .f32⟩
  | 87 => ⟨S2x32x32x32x1, .f32⟩
  | 88 => ⟨S_, .f32⟩
  | 89 => ⟨S2x32x32x32x1, .f32⟩
  | 90 => ⟨S2x32x32x32x1, .f32⟩
  | 91 => ⟨S2x1x32x32x32x6, .f32⟩
  | 92 => ⟨S2x32x32x32x6, .f32⟩
  | 93 => ⟨S2x32x32x32x6, .f32⟩
  | 94 => ⟨S2x32x32x32x6, .f32⟩
  | 95 => ⟨S2x1x32x32x32x1, .f32⟩
  | 96 => ⟨S2x32x32x32x1, .f32⟩
  | 97 => ⟨S2x32x32x32x6, .f32⟩
  | 98 => ⟨S2x32x32x32x6, .f32⟩
  | 99 => ⟨S2x32x32x32x6, .f32⟩
  | 100 => ⟨S2x1x32x32x32x1, .f32⟩
  | 101 => ⟨S2x32x32x32x1, .f32⟩
  | 102 => ⟨S2x32x32x32x1, .f32⟩
  | 103 => ⟨S_, .f32⟩
  | 104 => ⟨S2x32x32x32x1, .f32⟩
  | 105 => ⟨S2x32x32x32x1, .i1⟩
  | 106 => ⟨S_, .f32⟩
  | 107 => ⟨S2x32x32x32x1, .f32⟩
  | 108 => ⟨S_, .f32⟩
  | 109 => ⟨S2x32x32x32x1, .f32⟩
  | 110 => ⟨S2x32x32x32x1, .f32⟩
  | 111 => ⟨S2x1x32x32x32x1, .f32⟩
  | 112 => ⟨S2x32x32x32x1, .f32⟩
  | 113 => ⟨S2x32x32x32x1, .f32⟩
  | 114 => ⟨S_, .f32⟩
  | 115 => ⟨S2x32x32x32x1, .f32⟩
  | 116 => ⟨S2x32x32x32x1, .f32⟩
  | 117 => ⟨S2x1x32x32x32x6, .f32⟩
  | 118 => ⟨S2x32x32x32x6, .f32⟩
  | 119 => ⟨S2x32x32x32x6, .f32⟩
  | 120 => ⟨S2x32x32x32x6, .f32⟩
  | 121 => ⟨S2x1x32x32x32x1, .f32⟩
  | 122 => ⟨S2x32x32x32x1, .f32⟩
  | 123 => ⟨S2x32x32x32x6, .f32⟩
  | 124 => ⟨S2x32x32x32x6, .f32⟩
  | 125 => ⟨S2x32x32x32x6, .f32⟩
  | 126 => ⟨S2x1x32x32x32x1, .f32⟩
  | 127 => ⟨S2x32x32x32x1, .f32⟩
  | _ => ⟨S2x20x19, .f32⟩

abbrev hbmTy0_6 (i : Nat) : BufTy := match i % 128 with
  | 0 => ⟨S2x32x32x32x1, .f32⟩
  | 1 => ⟨S_, .f32⟩
  | 2 => ⟨S2x32x32x32x1, .f32⟩
  | 3 => ⟨S2x32x32x32x1, .i1⟩
  | 4 => ⟨S_, .f32⟩
  | 5 => ⟨S2x32x32x32x1, .f32⟩
  | 6 => ⟨S_, .f32⟩
  | 7 => ⟨S2x32x32x32x1, .f32⟩
  | 8 => ⟨S2x32x32x32x1, .f32⟩
  | 9 => ⟨S2x1x32x32x32x1, .f32⟩
  | 10 => ⟨S2x32x32x32x1, .f32⟩
  | 11 => ⟨S2x32x32x32x1, .f32⟩
  | 12 => ⟨S_, .f32⟩
  | 13 => ⟨S2x32x32x32x1, .f32⟩
  | 14 => ⟨S2x32x32x32x1, .f32⟩
  | 15 => ⟨S2x1x32x32x32x6, .f32⟩
  | 16 => ⟨S2x32x32x32x6, .f32⟩
  | 17 => ⟨S2x32x32x32x6, .f32⟩
  | 18 => ⟨S2x32x32x32x6, .f32⟩
  | 19 => ⟨S2x1x32x32x32x1, .f32⟩
  | 20 => ⟨S2x32x32x32x1, .f32⟩
  | 21 => ⟨S2x32x32x32x6, .f32⟩
  | 22 => ⟨S2x32x32x32x6, .f32⟩
  | 23 => ⟨S2x32x32x32x6, .f32⟩
  | 24 => ⟨S2x1x32x32x32x1, .f32⟩
  | 25 => ⟨S2x32x32x32x1, .f32⟩
  | 26 => ⟨S2x32x32x32x1, .f32⟩
  | 27 => ⟨S_, .f32⟩
  | 28 => ⟨S2x32x32x32x1, .f32⟩
  | 29 => ⟨S2x32x32x32x1, .i1⟩
  | 30 => ⟨S_, .f32⟩
  | 31 => ⟨S2x32x32x32x1, .f32⟩
  | 32 => ⟨S_, .f32⟩
  | 33 => ⟨S2x32x32x32x1, .f32⟩
  | 34 => ⟨S2x32x32x32x1, .f32⟩
  | 35 => ⟨S_, .f32⟩
  | 36 => ⟨S2x32x32x32x1, .f32⟩
  | 37 => ⟨S_, .f32⟩
  | 38 => ⟨S2x32x32x32x1, .f32⟩
  | 39 => ⟨S2x32x32x32x1, .i1⟩
  | 40 => ⟨S_, .f32⟩
  | 41 => ⟨S2x32x32x32x1, .f32⟩
  | 42 => ⟨S_, .f32⟩
  | 43 => ⟨S2x32x32x32x1, .f32⟩
  | 44 => ⟨S2x32x32x32x1, .f32⟩
  | 45 => ⟨S2x32x32x32, .f32⟩
  | 46 => ⟨S_, .f32⟩
  | 47 => ⟨S2x32x32x32, .f32⟩
  | 48 => ⟨S_, .f32⟩
  | 49 => ⟨S2x32x32x32, .f32⟩
  | 50 => ⟨S2x32x32x32, .i1⟩
  | 51 => ⟨S_, .f32⟩
  | 52 => ⟨S2x32x32x32, .f32⟩
  | 53 => ⟨S_, .f32⟩
  | 54 => ⟨S2x32x32x32, .f32⟩
  | 55 => ⟨S2x32x32x32, .f32⟩
  | 56 => ⟨S_, .f32⟩
  | 57 => ⟨S2x32x32x32, .f32⟩
  | 58 => ⟨S2x32x32x32, .f32⟩
  | 59 => ⟨S_, .f32⟩
  | 60 => ⟨S_, .f32⟩
  | 61 => ⟨S_, .f32⟩
  | 62 => ⟨S_, .f32⟩
  | 63 => ⟨S2x32x32x32, .f32⟩
  | 64 => ⟨S_, .f32⟩
  | 65 => ⟨S2x32x32x32, .f32⟩
  | 66 => ⟨S2x32x32x32, .f32⟩
  | 67 => ⟨S2x32x32x32, .f32⟩
  | 68 => ⟨S2x32x32x32, .f32⟩
  | 69 => ⟨S_, .f32⟩
  | 70 => ⟨S_, .f32⟩
  | 71 => ⟨S_, .f32⟩
  | 72 => ⟨S_, .f32⟩
  | 73 => ⟨S_, .f32⟩
  | 74 => ⟨S2x32x32x32, .f32⟩
  | 75 => ⟨S_, .f32⟩
  | 76 => ⟨S2x32x32x32, .f32⟩
  | 77 => ⟨S2x32x32x32, .f32⟩
  | 78 => ⟨S_, .f32⟩
  | 79 => ⟨S2x32x32x32, .f32⟩
  | 80 => ⟨S2x32x32x32, .f32⟩
  | 81 => ⟨S2x32x32x32, .f32⟩
  | 82 => ⟨S2x32x32x32, .f32⟩
  | 83 => ⟨S_, .f32⟩
  | 84 => ⟨S_, .f32⟩
  | 85 => ⟨S_, .f32⟩
  | 86 => ⟨S_, .f32⟩
  | 87 => ⟨S_, .f32⟩
  | 88 => ⟨S2x32x32x32x6, .f32⟩
  | 89 => ⟨S2x32x32x32x6, .f32⟩
  | 90 => ⟨S_, .f32⟩
  | 91 => ⟨S2x32x32x32x6, .f32⟩
  | 92 => ⟨S2x32x32x32x6, .i1⟩
  | 93 => ⟨S2x32x32x32x6, .f32⟩
  | 94 => ⟨S2x32x32x32x6, .f32⟩
  | 95 => ⟨S_, .f32⟩
  | 96 => ⟨S2x32x32x32x6, .f32⟩
  | 97 => ⟨S2x32x32x32x6, .f32⟩
  | 98 => ⟨S_, .f32⟩
  | 99 => ⟨S2x32x32x32x6, .f32⟩
  | 100 => ⟨S2x32x32x32x6, .f32⟩
  | 101 => ⟨S2x32x32x32x6, .f32⟩
  | 102 => ⟨S_, .f32⟩
  | 103 => ⟨S2x32x32x32x6, .f32⟩
  | 104 => ⟨S2x32x32x32x6, .f32⟩
  | 105 => ⟨S2x32x32x32x6, .f32⟩
  | 106 => ⟨S_, .f32⟩
  | 107 => ⟨S2x32x32x32x6, .f32⟩
  | 108 => ⟨S2x32x32x32x6, .f32⟩
  | 109 => ⟨S2x32x32x32x6, .f32⟩
  | 110 => ⟨S2x32x32x32x6, .f32⟩
  | 111 => ⟨S2x32x32x32x1, .f32⟩
  | 112 => ⟨S2x32x32x32x6, .f32⟩
  | 113 => ⟨S2x32x32x32x6, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S2x20x19, .f32⟩

abbrev hbmTy0_7 (i : Nat) : BufTy := match i % 128 with
  | 0 => ⟨S1x1, .f32⟩
  | _ => ⟨S2x20x19, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S2x20x19, .f32⟩

abbrev bufTy : (tb : Table) → Fin (tcTables nBuf tb) → BufTy
  | .hbm, ⟨i, _⟩ => hbmTy i
  | _, _ => ⟨S2x20x19, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_cst_0 : Ref sig .tc := ⟨.hbm, 181, rfl⟩
abbrev main_v173 : Ref sig .tc := ⟨.hbm, 182, rfl⟩
abbrev main_v174 : Ref sig .tc := ⟨.hbm, 183, rfl⟩
abbrev main_cst_1 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_cst_2 : Ref sig .tc := ⟨.hbm, 196, rfl⟩
abbrev main_v186 : Ref sig .tc := ⟨.hbm, 197, rfl⟩
abbrev main_v187 : Ref sig .tc := ⟨.hbm, 198, rfl⟩
abbrev main_cst_3 : Ref sig .tc := ⟨.hbm, 199, rfl⟩
abbrev main_v188 : Ref sig .tc := ⟨.hbm, 200, rfl⟩
abbrev main_v189 : Ref sig .tc := ⟨.hbm, 201, rfl⟩
abbrev main_v190 : Ref sig .tc := ⟨.hbm, 202, rfl⟩
abbrev main_v191 : Ref sig .tc := ⟨.hbm, 203, rfl⟩
abbrev main_v192 : Ref sig .tc := ⟨.hbm, 204, rfl⟩
abbrev main_v193 : Ref sig .tc := ⟨.hbm, 205, rfl⟩
abbrev main_v194 : Ref sig .tc := ⟨.hbm, 206, rfl⟩
abbrev main_v195 : Ref sig .tc := ⟨.hbm, 207, rfl⟩
abbrev main_v196 : Ref sig .tc := ⟨.hbm, 208, rfl⟩
abbrev main_v197 : Ref sig .tc := ⟨.hbm, 209, rfl⟩
abbrev main_cst_4 : Ref sig .tc := ⟨.hbm, 210, rfl⟩
abbrev main_v198 : Ref sig .tc := ⟨.hbm, 211, rfl⟩
abbrev main_v199 : Ref sig .tc := ⟨.hbm, 212, rfl⟩
abbrev main_v200 : Ref sig .tc := ⟨.hbm, 213, rfl⟩
abbrev main_v201 : Ref sig .tc := ⟨.hbm, 214, rfl⟩
abbrev main_v202 : Ref sig .tc := ⟨.hbm, 215, rfl⟩
abbrev main_v203 : Ref sig .tc := ⟨.hbm, 216, rfl⟩
abbrev main_v204 : Ref sig .tc := ⟨.hbm, 217, rfl⟩
abbrev main_v205 : Ref sig .tc := ⟨.hbm, 218, rfl⟩
abbrev main_v206 : Ref sig .tc := ⟨.hbm, 219, rfl⟩
abbrev main_v207 : Ref sig .tc := ⟨.hbm, 220, rfl⟩
abbrev main_v208 : Ref sig .tc := ⟨.hbm, 221, rfl⟩
abbrev main_cst_5 : Ref sig .tc := ⟨.hbm, 222, rfl⟩
abbrev main_v209 : Ref sig .tc := ⟨.hbm, 223, rfl⟩
abbrev main_cst_6 : Ref sig .tc := ⟨.hbm, 224, rfl⟩
abbrev main_v210 : Ref sig .tc := ⟨.hbm, 225, rfl⟩
abbrev main_v211 : Ref sig .tc := ⟨.hbm, 226, rfl⟩
abbrev main_v212 : Ref sig .tc := ⟨.hbm, 227, rfl⟩
abbrev main_v213 : Ref sig .tc := ⟨.hbm, 228, rfl⟩
abbrev main_v214 : Ref sig .tc := ⟨.hbm, 229, rfl⟩
abbrev main_v215 : Ref sig .tc := ⟨.hbm, 230, rfl⟩
abbrev main_v216 : Ref sig .tc := ⟨.hbm, 231, rfl⟩
abbrev main_v217 : Ref sig .tc := ⟨.hbm, 232, rfl⟩
abbrev main_v218 : Ref sig .tc := ⟨.hbm, 233, rfl⟩
abbrev main_v219 : Ref sig .tc := ⟨.hbm, 234, rfl⟩
abbrev main_v220 : Ref sig .tc := ⟨.hbm, 235, rfl⟩
abbrev main_v221 : Ref sig .tc := ⟨.hbm, 236, rfl⟩
abbrev main_v222 : Ref sig .tc := ⟨.hbm, 237, rfl⟩
abbrev main_v223 : Ref sig .tc := ⟨.hbm, 238, rfl⟩
abbrev main_v224 : Ref sig .tc := ⟨.hbm, 239, rfl⟩
abbrev main_v225 : Ref sig .tc := ⟨.hbm, 240, rfl⟩
abbrev main_v226 : Ref sig .tc := ⟨.hbm, 241, rfl⟩
abbrev main_v227 : Ref sig .tc := ⟨.hbm, 242, rfl⟩
abbrev main_v228 : Ref sig .tc := ⟨.hbm, 243, rfl⟩
abbrev main_v229 : Ref sig .tc := ⟨.hbm, 244, rfl⟩
abbrev main_cst_7 : Ref sig .tc := ⟨.hbm, 245, rfl⟩
abbrev main_v230 : Ref sig .tc := ⟨.hbm, 246, rfl⟩
abbrev main_v231 : Ref sig .tc := ⟨.hbm, 247, rfl⟩
abbrev main_cst_8 : Ref sig .tc := ⟨.hbm, 248, rfl⟩
abbrev main_v232 : Ref sig .tc := ⟨.hbm, 249, rfl⟩
abbrev main_v233 : Ref sig .tc := ⟨.hbm, 250, rfl⟩
abbrev main_v234 : Ref sig .tc := ⟨.hbm, 251, rfl⟩
abbrev main_cst_9 : Ref sig .tc := ⟨.hbm, 252, rfl⟩
abbrev main_v235 : Ref sig .tc := ⟨.hbm, 253, rfl⟩
abbrev main_cst_10 : Ref sig .tc := ⟨.hbm, 254, rfl⟩
abbrev main_v236 : Ref sig .tc := ⟨.hbm, 255, rfl⟩
abbrev main_v237 : Ref sig .tc := ⟨.hbm, 256, rfl⟩
abbrev main_v238 : Ref sig .tc := ⟨.hbm, 257, rfl⟩
abbrev main_v239 : Ref sig .tc := ⟨.hbm, 258, rfl⟩
abbrev main_v240 : Ref sig .tc := ⟨.hbm, 259, rfl⟩
abbrev main_v241 : Ref sig .tc := ⟨.hbm, 260, rfl⟩
abbrev main_v242 : Ref sig .tc := ⟨.hbm, 261, rfl⟩
abbrev main_v243 : Ref sig .tc := ⟨.hbm, 262, rfl⟩
abbrev main_v244 : Ref sig .tc := ⟨.hbm, 263, rfl⟩
abbrev main_v245 : Ref sig .tc := ⟨.hbm, 264, rfl⟩
abbrev main_v246 : Ref sig .tc := ⟨.hbm, 265, rfl⟩
abbrev main_cst_11 : Ref sig .tc := ⟨.hbm, 266, rfl⟩
abbrev main_v247 : Ref sig .tc := ⟨.hbm, 267, rfl⟩
abbrev main_v248 : Ref sig .tc := ⟨.hbm, 268, rfl⟩
abbrev main_cst_12 : Ref sig .tc := ⟨.hbm, 269, rfl⟩
abbrev main_v249 : Ref sig .tc := ⟨.hbm, 270, rfl⟩
abbrev main_v250 : Ref sig .tc := ⟨.hbm, 271, rfl⟩
abbrev main_v251 : Ref sig .tc := ⟨.hbm, 272, rfl⟩
abbrev main_cst_13 : Ref sig .tc := ⟨.hbm, 273, rfl⟩
abbrev main_v252 : Ref sig .tc := ⟨.hbm, 274, rfl⟩
abbrev main_cst_14 : Ref sig .tc := ⟨.hbm, 275, rfl⟩
abbrev main_v253 : Ref sig .tc := ⟨.hbm, 276, rfl⟩
abbrev main_cst_15 : Ref sig .tc := ⟨.hbm, 277, rfl⟩
abbrev main_v254 : Ref sig .tc := ⟨.hbm, 278, rfl⟩
abbrev main_v255 : Ref sig .tc := ⟨.hbm, 279, rfl⟩
abbrev main_cst_16 : Ref sig .tc := ⟨.hbm, 280, rfl⟩
abbrev main_v256 : Ref sig .tc := ⟨.hbm, 281, rfl⟩
abbrev main_cst_17 : Ref sig .tc := ⟨.hbm, 282, rfl⟩
abbrev main_v257 : Ref sig .tc := ⟨.hbm, 283, rfl⟩
abbrev main_v258 : Ref sig .tc := ⟨.hbm, 284, rfl⟩
abbrev main_v259 : Ref sig .tc := ⟨.hbm, 285, rfl⟩
abbrev main_v260 : Ref sig .tc := ⟨.hbm, 286, rfl⟩
abbrev main_v261 : Ref sig .tc := ⟨.hbm, 287, rfl⟩
abbrev main_cst_18 : Ref sig .tc := ⟨.hbm, 288, rfl⟩
abbrev main_v262 : Ref sig .tc := ⟨.hbm, 289, rfl⟩
abbrev main_cst_19 : Ref sig .tc := ⟨.hbm, 290, rfl⟩
abbrev main_v263 : Ref sig .tc := ⟨.hbm, 291, rfl⟩
abbrev main_v264 : Ref sig .tc := ⟨.hbm, 292, rfl⟩
abbrev main_cst_20 : Ref sig .tc := ⟨.hbm, 293, rfl⟩
abbrev main_v265 : Ref sig .tc := ⟨.hbm, 294, rfl⟩
abbrev main_cst_21 : Ref sig .tc := ⟨.hbm, 295, rfl⟩
abbrev main_v266 : Ref sig .tc := ⟨.hbm, 296, rfl⟩
abbrev main_v267 : Ref sig .tc := ⟨.hbm, 297, rfl⟩
abbrev main_v268 : Ref sig .tc := ⟨.hbm, 298, rfl⟩
abbrev main_v269 : Ref sig .tc := ⟨.hbm, 299, rfl⟩
abbrev main_v270 : Ref sig .tc := ⟨.hbm, 300, rfl⟩
abbrev main_v271 : Ref sig .tc := ⟨.hbm, 301, rfl⟩
abbrev main_v272 : Ref sig .tc := ⟨.hbm, 302, rfl⟩
abbrev main_v273 : Ref sig .tc := ⟨.hbm, 303, rfl⟩
abbrev main_v274 : Ref sig .tc := ⟨.hbm, 304, rfl⟩
abbrev main_v275 : Ref sig .tc := ⟨.hbm, 305, rfl⟩
abbrev main_v276 : Ref sig .tc := ⟨.hbm, 306, rfl⟩
abbrev main_v277 : Ref sig .tc := ⟨.hbm, 307, rfl⟩
abbrev main_v278 : Ref sig .tc := ⟨.hbm, 308, rfl⟩
abbrev main_v279 : Ref sig .tc := ⟨.hbm, 309, rfl⟩
abbrev main_v280 : Ref sig .tc := ⟨.hbm, 310, rfl⟩
abbrev main_v281 : Ref sig .tc := ⟨.hbm, 311, rfl⟩
abbrev main_cst_22 : Ref sig .tc := ⟨.hbm, 312, rfl⟩
abbrev main_v282 : Ref sig .tc := ⟨.hbm, 313, rfl⟩
abbrev main_v283 : Ref sig .tc := ⟨.hbm, 314, rfl⟩
abbrev main_v284 : Ref sig .tc := ⟨.hbm, 315, rfl⟩
abbrev main_v285 : Ref sig .tc := ⟨.hbm, 316, rfl⟩
abbrev main_v286 : Ref sig .tc := ⟨.hbm, 317, rfl⟩
abbrev main_v287 : Ref sig .tc := ⟨.hbm, 318, rfl⟩
abbrev main_v288 : Ref sig .tc := ⟨.hbm, 319, rfl⟩
abbrev main_v289 : Ref sig .tc := ⟨.hbm, 320, rfl⟩
abbrev main_v290 : Ref sig .tc := ⟨.hbm, 321, rfl⟩
abbrev main_v291 : Ref sig .tc := ⟨.hbm, 322, rfl⟩
abbrev main_v292 : Ref sig .tc := ⟨.hbm, 323, rfl⟩
abbrev main_v293 : Ref sig .tc := ⟨.hbm, 324, rfl⟩
abbrev main_v294 : Ref sig .tc := ⟨.hbm, 325, rfl⟩
abbrev main_v295 : Ref sig .tc := ⟨.hbm, 326, rfl⟩
abbrev main_cst_23 : Ref sig .tc := ⟨.hbm, 327, rfl⟩
abbrev main_v296 : Ref sig .tc := ⟨.hbm, 328, rfl⟩
abbrev main_v297 : Ref sig .tc := ⟨.hbm, 329, rfl⟩
abbrev main_cst_24 : Ref sig .tc := ⟨.hbm, 330, rfl⟩
abbrev main_v298 : Ref sig .tc := ⟨.hbm, 331, rfl⟩
abbrev main_cst_25 : Ref sig .tc := ⟨.hbm, 332, rfl⟩
abbrev main_v299 : Ref sig .tc := ⟨.hbm, 333, rfl⟩
abbrev main_v300 : Ref sig .tc := ⟨.hbm, 334, rfl⟩
abbrev main_v301 : Ref sig .tc := ⟨.hbm, 335, rfl⟩
abbrev main_v302 : Ref sig .tc := ⟨.hbm, 336, rfl⟩
abbrev main_v303 : Ref sig .tc := ⟨.hbm, 337, rfl⟩
abbrev main_cst_26 : Ref sig .tc := ⟨.hbm, 338, rfl⟩
abbrev main_v304 : Ref sig .tc := ⟨.hbm, 339, rfl⟩
abbrev main_v305 : Ref sig .tc := ⟨.hbm, 340, rfl⟩
abbrev main_v306 : Ref sig .tc := ⟨.hbm, 341, rfl⟩
abbrev main_v307 : Ref sig .tc := ⟨.hbm, 342, rfl⟩
abbrev main_v308 : Ref sig .tc := ⟨.hbm, 343, rfl⟩
abbrev main_v309 : Ref sig .tc := ⟨.hbm, 344, rfl⟩
abbrev main_v310 : Ref sig .tc := ⟨.hbm, 345, rfl⟩
abbrev main_v311 : Ref sig .tc := ⟨.hbm, 346, rfl⟩
abbrev main_v312 : Ref sig .tc := ⟨.hbm, 347, rfl⟩
abbrev main_v313 : Ref sig .tc := ⟨.hbm, 348, rfl⟩
abbrev main_v314 : Ref sig .tc := ⟨.hbm, 349, rfl⟩
abbrev main_v315 : Ref sig .tc := ⟨.hbm, 350, rfl⟩
abbrev main_v316 : Ref sig .tc := ⟨.hbm, 351, rfl⟩
abbrev main_v317 : Ref sig .tc := ⟨.hbm, 352, rfl⟩
abbrev main_cst_27 : Ref sig .tc := ⟨.hbm, 353, rfl⟩
abbrev main_v318 : Ref sig .tc := ⟨.hbm, 354, rfl⟩
abbrev main_v319 : Ref sig .tc := ⟨.hbm, 355, rfl⟩
abbrev main_cst_28 : Ref sig .tc := ⟨.hbm, 356, rfl⟩
abbrev main_v320 : Ref sig .tc := ⟨.hbm, 357, rfl⟩
abbrev main_cst_29 : Ref sig .tc := ⟨.hbm, 358, rfl⟩
abbrev main_v321 : Ref sig .tc := ⟨.hbm, 359, rfl⟩
abbrev main_v322 : Ref sig .tc := ⟨.hbm, 360, rfl⟩
abbrev main_v323 : Ref sig .tc := ⟨.hbm, 361, rfl⟩
abbrev main_v324 : Ref sig .tc := ⟨.hbm, 362, rfl⟩
abbrev main_v325 : Ref sig .tc := ⟨.hbm, 363, rfl⟩
abbrev main_cst_30 : Ref sig .tc := ⟨.hbm, 364, rfl⟩
abbrev main_v326 : Ref sig .tc := ⟨.hbm, 365, rfl⟩
abbrev main_v327 : Ref sig .tc := ⟨.hbm, 366, rfl⟩
abbrev main_v328 : Ref sig .tc := ⟨.hbm, 367, rfl⟩
abbrev main_v329 : Ref sig .tc := ⟨.hbm, 368, rfl⟩
abbrev main_v330 : Ref sig .tc := ⟨.hbm, 369, rfl⟩
abbrev main_v331 : Ref sig .tc := ⟨.hbm, 370, rfl⟩
abbrev main_v332 : Ref sig .tc := ⟨.hbm, 371, rfl⟩
abbrev main_v333 : Ref sig .tc := ⟨.hbm, 372, rfl⟩
abbrev main_v334 : Ref sig .tc := ⟨.hbm, 373, rfl⟩
abbrev main_v335 : Ref sig .tc := ⟨.hbm, 374, rfl⟩
abbrev main_v336 : Ref sig .tc := ⟨.hbm, 375, rfl⟩
abbrev main_v337 : Ref sig .tc := ⟨.hbm, 376, rfl⟩
abbrev main_v338 : Ref sig .tc := ⟨.hbm, 377, rfl⟩
abbrev main_v339 : Ref sig .tc := ⟨.hbm, 378, rfl⟩
abbrev main_cst_31 : Ref sig .tc := ⟨.hbm, 379, rfl⟩
abbrev main_v340 : Ref sig .tc := ⟨.hbm, 380, rfl⟩
abbrev main_v341 : Ref sig .tc := ⟨.hbm, 381, rfl⟩
abbrev main_cst_32 : Ref sig .tc := ⟨.hbm, 382, rfl⟩
abbrev main_v342 : Ref sig .tc := ⟨.hbm, 383, rfl⟩
abbrev main_cst_33 : Ref sig .tc := ⟨.hbm, 384, rfl⟩
abbrev main_v343 : Ref sig .tc := ⟨.hbm, 385, rfl⟩
abbrev main_v344 : Ref sig .tc := ⟨.hbm, 386, rfl⟩
abbrev main_v345 : Ref sig .tc := ⟨.hbm, 387, rfl⟩
abbrev main_v346 : Ref sig .tc := ⟨.hbm, 388, rfl⟩
abbrev main_v347 : Ref sig .tc := ⟨.hbm, 389, rfl⟩
abbrev main_cst_34 : Ref sig .tc := ⟨.hbm, 390, rfl⟩
abbrev main_v348 : Ref sig .tc := ⟨.hbm, 391, rfl⟩
abbrev main_v349 : Ref sig .tc := ⟨.hbm, 392, rfl⟩
abbrev main_v350 : Ref sig .tc := ⟨.hbm, 393, rfl⟩
abbrev main_v351 : Ref sig .tc := ⟨.hbm, 394, rfl⟩
abbrev main_v352 : Ref sig .tc := ⟨.hbm, 395, rfl⟩
abbrev main_v353 : Ref sig .tc := ⟨.hbm, 396, rfl⟩
abbrev main_v354 : Ref sig .tc := ⟨.hbm, 397, rfl⟩
abbrev main_v355 : Ref sig .tc := ⟨.hbm, 398, rfl⟩
abbrev main_v356 : Ref sig .tc := ⟨.hbm, 399, rfl⟩
abbrev main_v357 : Ref sig .tc := ⟨.hbm, 400, rfl⟩
abbrev main_v358 : Ref sig .tc := ⟨.hbm, 401, rfl⟩
abbrev main_v359 : Ref sig .tc := ⟨.hbm, 402, rfl⟩
abbrev main_v360 : Ref sig .tc := ⟨.hbm, 403, rfl⟩
abbrev main_v361 : Ref sig .tc := ⟨.hbm, 404, rfl⟩
abbrev main_cst_35 : Ref sig .tc := ⟨.hbm, 405, rfl⟩
abbrev main_v362 : Ref sig .tc := ⟨.hbm, 406, rfl⟩
abbrev main_v363 : Ref sig .tc := ⟨.hbm, 407, rfl⟩
abbrev main_cst_36 : Ref sig .tc := ⟨.hbm, 408, rfl⟩
abbrev main_v364 : Ref sig .tc := ⟨.hbm, 409, rfl⟩
abbrev main_cst_37 : Ref sig .tc := ⟨.hbm, 410, rfl⟩
abbrev main_v365 : Ref sig .tc := ⟨.hbm, 411, rfl⟩
abbrev main_v366 : Ref sig .tc := ⟨.hbm, 412, rfl⟩
abbrev main_v367 : Ref sig .tc := ⟨.hbm, 413, rfl⟩
abbrev main_v368 : Ref sig .tc := ⟨.hbm, 414, rfl⟩
abbrev main_v369 : Ref sig .tc := ⟨.hbm, 415, rfl⟩
abbrev main_cst_38 : Ref sig .tc := ⟨.hbm, 416, rfl⟩
abbrev main_v370 : Ref sig .tc := ⟨.hbm, 417, rfl⟩
abbrev main_v371 : Ref sig .tc := ⟨.hbm, 418, rfl⟩
abbrev main_v372 : Ref sig .tc := ⟨.hbm, 419, rfl⟩
abbrev main_v373 : Ref sig .tc := ⟨.hbm, 420, rfl⟩
abbrev main_v374 : Ref sig .tc := ⟨.hbm, 421, rfl⟩
abbrev main_v375 : Ref sig .tc := ⟨.hbm, 422, rfl⟩
abbrev main_v376 : Ref sig .tc := ⟨.hbm, 423, rfl⟩
abbrev main_v377 : Ref sig .tc := ⟨.hbm, 424, rfl⟩
abbrev main_v378 : Ref sig .tc := ⟨.hbm, 425, rfl⟩
abbrev main_v379 : Ref sig .tc := ⟨.hbm, 426, rfl⟩
abbrev main_v380 : Ref sig .tc := ⟨.hbm, 427, rfl⟩
abbrev main_v381 : Ref sig .tc := ⟨.hbm, 428, rfl⟩
abbrev main_v382 : Ref sig .tc := ⟨.hbm, 429, rfl⟩
abbrev main_v383 : Ref sig .tc := ⟨.hbm, 430, rfl⟩
abbrev main_cst_39 : Ref sig .tc := ⟨.hbm, 431, rfl⟩
abbrev main_v384 : Ref sig .tc := ⟨.hbm, 432, rfl⟩
abbrev main_v385 : Ref sig .tc := ⟨.hbm, 433, rfl⟩
abbrev main_cst_40 : Ref sig .tc := ⟨.hbm, 434, rfl⟩
abbrev main_v386 : Ref sig .tc := ⟨.hbm, 435, rfl⟩
abbrev main_cst_41 : Ref sig .tc := ⟨.hbm, 436, rfl⟩
abbrev main_v387 : Ref sig .tc := ⟨.hbm, 437, rfl⟩
abbrev main_v388 : Ref sig .tc := ⟨.hbm, 438, rfl⟩
abbrev main_v389 : Ref sig .tc := ⟨.hbm, 439, rfl⟩
abbrev main_v390 : Ref sig .tc := ⟨.hbm, 440, rfl⟩
abbrev main_v391 : Ref sig .tc := ⟨.hbm, 441, rfl⟩
abbrev main_cst_42 : Ref sig .tc := ⟨.hbm, 442, rfl⟩
abbrev main_v392 : Ref sig .tc := ⟨.hbm, 443, rfl⟩
abbrev main_v393 : Ref sig .tc := ⟨.hbm, 444, rfl⟩
abbrev main_v394 : Ref sig .tc := ⟨.hbm, 445, rfl⟩
abbrev main_v395 : Ref sig .tc := ⟨.hbm, 446, rfl⟩
abbrev main_v396 : Ref sig .tc := ⟨.hbm, 447, rfl⟩
abbrev main_v397 : Ref sig .tc := ⟨.hbm, 448, rfl⟩
abbrev main_v398 : Ref sig .tc := ⟨.hbm, 449, rfl⟩
abbrev main_v399 : Ref sig .tc := ⟨.hbm, 450, rfl⟩
abbrev main_v400 : Ref sig .tc := ⟨.hbm, 451, rfl⟩
abbrev main_v401 : Ref sig .tc := ⟨.hbm, 452, rfl⟩
abbrev main_v402 : Ref sig .tc := ⟨.hbm, 453, rfl⟩
abbrev main_v403 : Ref sig .tc := ⟨.hbm, 454, rfl⟩
abbrev main_v404 : Ref sig .tc := ⟨.hbm, 455, rfl⟩
abbrev main_v405 : Ref sig .tc := ⟨.hbm, 456, rfl⟩
abbrev main_cst_43 : Ref sig .tc := ⟨.hbm, 457, rfl⟩
abbrev main_v406 : Ref sig .tc := ⟨.hbm, 458, rfl⟩
abbrev main_v407 : Ref sig .tc := ⟨.hbm, 459, rfl⟩
abbrev main_cst_44 : Ref sig .tc := ⟨.hbm, 460, rfl⟩
abbrev main_v408 : Ref sig .tc := ⟨.hbm, 461, rfl⟩
abbrev main_cst_45 : Ref sig .tc := ⟨.hbm, 462, rfl⟩
abbrev main_v409 : Ref sig .tc := ⟨.hbm, 463, rfl⟩
abbrev main_v410 : Ref sig .tc := ⟨.hbm, 464, rfl⟩
abbrev main_v411 : Ref sig .tc := ⟨.hbm, 465, rfl⟩
abbrev main_v412 : Ref sig .tc := ⟨.hbm, 466, rfl⟩
abbrev main_v413 : Ref sig .tc := ⟨.hbm, 467, rfl⟩
abbrev main_cst_46 : Ref sig .tc := ⟨.hbm, 468, rfl⟩
abbrev main_v414 : Ref sig .tc := ⟨.hbm, 469, rfl⟩
abbrev main_v415 : Ref sig .tc := ⟨.hbm, 470, rfl⟩
abbrev main_v416 : Ref sig .tc := ⟨.hbm, 471, rfl⟩
abbrev main_v417 : Ref sig .tc := ⟨.hbm, 472, rfl⟩
abbrev main_v418 : Ref sig .tc := ⟨.hbm, 473, rfl⟩
abbrev main_v419 : Ref sig .tc := ⟨.hbm, 474, rfl⟩
abbrev main_v420 : Ref sig .tc := ⟨.hbm, 475, rfl⟩
abbrev main_v421 : Ref sig .tc := ⟨.hbm, 476, rfl⟩
abbrev main_v422 : Ref sig .tc := ⟨.hbm, 477, rfl⟩
abbrev main_v423 : Ref sig .tc := ⟨.hbm, 478, rfl⟩
abbrev main_v424 : Ref sig .tc := ⟨.hbm, 479, rfl⟩
abbrev main_v425 : Ref sig .tc := ⟨.hbm, 480, rfl⟩
abbrev main_v426 : Ref sig .tc := ⟨.hbm, 481, rfl⟩
abbrev main_v427 : Ref sig .tc := ⟨.hbm, 482, rfl⟩
abbrev main_cst_47 : Ref sig .tc := ⟨.hbm, 483, rfl⟩
abbrev main_v428 : Ref sig .tc := ⟨.hbm, 484, rfl⟩
abbrev main_v429 : Ref sig .tc := ⟨.hbm, 485, rfl⟩
abbrev main_cst_48 : Ref sig .tc := ⟨.hbm, 486, rfl⟩
abbrev main_v430 : Ref sig .tc := ⟨.hbm, 487, rfl⟩
abbrev main_cst_49 : Ref sig .tc := ⟨.hbm, 488, rfl⟩
abbrev main_v431 : Ref sig .tc := ⟨.hbm, 489, rfl⟩
abbrev main_v432 : Ref sig .tc := ⟨.hbm, 490, rfl⟩
abbrev main_v433 : Ref sig .tc := ⟨.hbm, 491, rfl⟩
abbrev main_v434 : Ref sig .tc := ⟨.hbm, 492, rfl⟩
abbrev main_v435 : Ref sig .tc := ⟨.hbm, 493, rfl⟩
abbrev main_cst_50 : Ref sig .tc := ⟨.hbm, 494, rfl⟩
abbrev main_v436 : Ref sig .tc := ⟨.hbm, 495, rfl⟩
abbrev main_v437 : Ref sig .tc := ⟨.hbm, 496, rfl⟩
abbrev main_v438 : Ref sig .tc := ⟨.hbm, 497, rfl⟩
abbrev main_v439 : Ref sig .tc := ⟨.hbm, 498, rfl⟩
abbrev main_v440 : Ref sig .tc := ⟨.hbm, 499, rfl⟩
abbrev main_v441 : Ref sig .tc := ⟨.hbm, 500, rfl⟩
abbrev main_v442 : Ref sig .tc := ⟨.hbm, 501, rfl⟩
abbrev main_v443 : Ref sig .tc := ⟨.hbm, 502, rfl⟩
abbrev main_v444 : Ref sig .tc := ⟨.hbm, 503, rfl⟩
abbrev main_v445 : Ref sig .tc := ⟨.hbm, 504, rfl⟩
abbrev main_v446 : Ref sig .tc := ⟨.hbm, 505, rfl⟩
abbrev main_v447 : Ref sig .tc := ⟨.hbm, 506, rfl⟩
abbrev main_v448 : Ref sig .tc := ⟨.hbm, 507, rfl⟩
abbrev main_v449 : Ref sig .tc := ⟨.hbm, 508, rfl⟩
abbrev main_cst_51 : Ref sig .tc := ⟨.hbm, 509, rfl⟩
abbrev main_v450 : Ref sig .tc := ⟨.hbm, 510, rfl⟩
abbrev main_v451 : Ref sig .tc := ⟨.hbm, 511, rfl⟩
abbrev main_cst_52 : Ref sig .tc := ⟨.hbm, 512, rfl⟩
abbrev main_v452 : Ref sig .tc := ⟨.hbm, 513, rfl⟩
abbrev main_cst_53 : Ref sig .tc := ⟨.hbm, 514, rfl⟩
abbrev main_v453 : Ref sig .tc := ⟨.hbm, 515, rfl⟩
abbrev main_v454 : Ref sig .tc := ⟨.hbm, 516, rfl⟩
abbrev main_v455 : Ref sig .tc := ⟨.hbm, 517, rfl⟩
abbrev main_v456 : Ref sig .tc := ⟨.hbm, 518, rfl⟩
abbrev main_v457 : Ref sig .tc := ⟨.hbm, 519, rfl⟩
abbrev main_cst_54 : Ref sig .tc := ⟨.hbm, 520, rfl⟩
abbrev main_v458 : Ref sig .tc := ⟨.hbm, 521, rfl⟩
abbrev main_v459 : Ref sig .tc := ⟨.hbm, 522, rfl⟩
abbrev main_v460 : Ref sig .tc := ⟨.hbm, 523, rfl⟩
abbrev main_v461 : Ref sig .tc := ⟨.hbm, 524, rfl⟩
abbrev main_v462 : Ref sig .tc := ⟨.hbm, 525, rfl⟩
abbrev main_v463 : Ref sig .tc := ⟨.hbm, 526, rfl⟩
abbrev main_v464 : Ref sig .tc := ⟨.hbm, 527, rfl⟩
abbrev main_v465 : Ref sig .tc := ⟨.hbm, 528, rfl⟩
abbrev main_v466 : Ref sig .tc := ⟨.hbm, 529, rfl⟩
abbrev main_v467 : Ref sig .tc := ⟨.hbm, 530, rfl⟩
abbrev main_v468 : Ref sig .tc := ⟨.hbm, 531, rfl⟩
abbrev main_v469 : Ref sig .tc := ⟨.hbm, 532, rfl⟩
abbrev main_v470 : Ref sig .tc := ⟨.hbm, 533, rfl⟩
abbrev main_v471 : Ref sig .tc := ⟨.hbm, 534, rfl⟩
abbrev main_cst_55 : Ref sig .tc := ⟨.hbm, 535, rfl⟩
abbrev main_v472 : Ref sig .tc := ⟨.hbm, 536, rfl⟩
abbrev main_v473 : Ref sig .tc := ⟨.hbm, 537, rfl⟩
abbrev main_cst_56 : Ref sig .tc := ⟨.hbm, 538, rfl⟩
abbrev main_v474 : Ref sig .tc := ⟨.hbm, 539, rfl⟩
abbrev main_cst_57 : Ref sig .tc := ⟨.hbm, 540, rfl⟩
abbrev main_v475 : Ref sig .tc := ⟨.hbm, 541, rfl⟩
abbrev main_v476 : Ref sig .tc := ⟨.hbm, 542, rfl⟩
abbrev main_v477 : Ref sig .tc := ⟨.hbm, 543, rfl⟩
abbrev main_v478 : Ref sig .tc := ⟨.hbm, 544, rfl⟩
abbrev main_v479 : Ref sig .tc := ⟨.hbm, 545, rfl⟩
abbrev main_cst_58 : Ref sig .tc := ⟨.hbm, 546, rfl⟩
abbrev main_v480 : Ref sig .tc := ⟨.hbm, 547, rfl⟩
abbrev main_v481 : Ref sig .tc := ⟨.hbm, 548, rfl⟩
abbrev main_v482 : Ref sig .tc := ⟨.hbm, 549, rfl⟩
abbrev main_v483 : Ref sig .tc := ⟨.hbm, 550, rfl⟩
abbrev main_v484 : Ref sig .tc := ⟨.hbm, 551, rfl⟩
abbrev main_v485 : Ref sig .tc := ⟨.hbm, 552, rfl⟩
abbrev main_v486 : Ref sig .tc := ⟨.hbm, 553, rfl⟩
abbrev main_v487 : Ref sig .tc := ⟨.hbm, 554, rfl⟩
abbrev main_v488 : Ref sig .tc := ⟨.hbm, 555, rfl⟩
abbrev main_v489 : Ref sig .tc := ⟨.hbm, 556, rfl⟩
abbrev main_v490 : Ref sig .tc := ⟨.hbm, 557, rfl⟩
abbrev main_v491 : Ref sig .tc := ⟨.hbm, 558, rfl⟩
abbrev main_v492 : Ref sig .tc := ⟨.hbm, 559, rfl⟩
abbrev main_v493 : Ref sig .tc := ⟨.hbm, 560, rfl⟩
abbrev main_cst_59 : Ref sig .tc := ⟨.hbm, 561, rfl⟩
abbrev main_v494 : Ref sig .tc := ⟨.hbm, 562, rfl⟩
abbrev main_v495 : Ref sig .tc := ⟨.hbm, 563, rfl⟩
abbrev main_cst_60 : Ref sig .tc := ⟨.hbm, 564, rfl⟩
abbrev main_v496 : Ref sig .tc := ⟨.hbm, 565, rfl⟩
abbrev main_cst_61 : Ref sig .tc := ⟨.hbm, 566, rfl⟩
abbrev main_v497 : Ref sig .tc := ⟨.hbm, 567, rfl⟩
abbrev main_v498 : Ref sig .tc := ⟨.hbm, 568, rfl⟩
abbrev main_v499 : Ref sig .tc := ⟨.hbm, 569, rfl⟩
abbrev main_v500 : Ref sig .tc := ⟨.hbm, 570, rfl⟩
abbrev main_v501 : Ref sig .tc := ⟨.hbm, 571, rfl⟩
abbrev main_cst_62 : Ref sig .tc := ⟨.hbm, 572, rfl⟩
abbrev main_v502 : Ref sig .tc := ⟨.hbm, 573, rfl⟩
abbrev main_v503 : Ref sig .tc := ⟨.hbm, 574, rfl⟩
abbrev main_v504 : Ref sig .tc := ⟨.hbm, 575, rfl⟩
abbrev main_v505 : Ref sig .tc := ⟨.hbm, 576, rfl⟩
abbrev main_v506 : Ref sig .tc := ⟨.hbm, 577, rfl⟩
abbrev main_v507 : Ref sig .tc := ⟨.hbm, 578, rfl⟩
abbrev main_v508 : Ref sig .tc := ⟨.hbm, 579, rfl⟩
abbrev main_v509 : Ref sig .tc := ⟨.hbm, 580, rfl⟩
abbrev main_v510 : Ref sig .tc := ⟨.hbm, 581, rfl⟩
abbrev main_v511 : Ref sig .tc := ⟨.hbm, 582, rfl⟩
abbrev main_v512 : Ref sig .tc := ⟨.hbm, 583, rfl⟩
abbrev main_v513 : Ref sig .tc := ⟨.hbm, 584, rfl⟩
abbrev main_v514 : Ref sig .tc := ⟨.hbm, 585, rfl⟩
abbrev main_v515 : Ref sig .tc := ⟨.hbm, 586, rfl⟩
abbrev main_cst_63 : Ref sig .tc := ⟨.hbm, 587, rfl⟩
abbrev main_v516 : Ref sig .tc := ⟨.hbm, 588, rfl⟩
abbrev main_v517 : Ref sig .tc := ⟨.hbm, 589, rfl⟩
abbrev main_cst_64 : Ref sig .tc := ⟨.hbm, 590, rfl⟩
abbrev main_v518 : Ref sig .tc := ⟨.hbm, 591, rfl⟩
abbrev main_cst_65 : Ref sig .tc := ⟨.hbm, 592, rfl⟩
abbrev main_v519 : Ref sig .tc := ⟨.hbm, 593, rfl⟩
abbrev main_v520 : Ref sig .tc := ⟨.hbm, 594, rfl⟩
abbrev main_v521 : Ref sig .tc := ⟨.hbm, 595, rfl⟩
abbrev main_v522 : Ref sig .tc := ⟨.hbm, 596, rfl⟩
abbrev main_v523 : Ref sig .tc := ⟨.hbm, 597, rfl⟩
abbrev main_cst_66 : Ref sig .tc := ⟨.hbm, 598, rfl⟩
abbrev main_v524 : Ref sig .tc := ⟨.hbm, 599, rfl⟩
abbrev main_v525 : Ref sig .tc := ⟨.hbm, 600, rfl⟩
abbrev main_v526 : Ref sig .tc := ⟨.hbm, 601, rfl⟩
abbrev main_v527 : Ref sig .tc := ⟨.hbm, 602, rfl⟩
abbrev main_v528 : Ref sig .tc := ⟨.hbm, 603, rfl⟩
abbrev main_v529 : Ref sig .tc := ⟨.hbm, 604, rfl⟩
abbrev main_v530 : Ref sig .tc := ⟨.hbm, 605, rfl⟩
abbrev main_v531 : Ref sig .tc := ⟨.hbm, 606, rfl⟩
abbrev main_v532 : Ref sig .tc := ⟨.hbm, 607, rfl⟩
abbrev main_v533 : Ref sig .tc := ⟨.hbm, 608, rfl⟩
abbrev main_v534 : Ref sig .tc := ⟨.hbm, 609, rfl⟩
abbrev main_v535 : Ref sig .tc := ⟨.hbm, 610, rfl⟩
abbrev main_v536 : Ref sig .tc := ⟨.hbm, 611, rfl⟩
abbrev main_v537 : Ref sig .tc := ⟨.hbm, 612, rfl⟩
abbrev main_cst_67 : Ref sig .tc := ⟨.hbm, 613, rfl⟩
abbrev main_v538 : Ref sig .tc := ⟨.hbm, 614, rfl⟩
abbrev main_v539 : Ref sig .tc := ⟨.hbm, 615, rfl⟩
abbrev main_cst_68 : Ref sig .tc := ⟨.hbm, 616, rfl⟩
abbrev main_v540 : Ref sig .tc := ⟨.hbm, 617, rfl⟩
abbrev main_cst_69 : Ref sig .tc := ⟨.hbm, 618, rfl⟩
abbrev main_v541 : Ref sig .tc := ⟨.hbm, 619, rfl⟩
abbrev main_v542 : Ref sig .tc := ⟨.hbm, 620, rfl⟩
abbrev main_v543 : Ref sig .tc := ⟨.hbm, 621, rfl⟩
abbrev main_v544 : Ref sig .tc := ⟨.hbm, 622, rfl⟩
abbrev main_v545 : Ref sig .tc := ⟨.hbm, 623, rfl⟩
abbrev main_cst_70 : Ref sig .tc := ⟨.hbm, 624, rfl⟩
abbrev main_v546 : Ref sig .tc := ⟨.hbm, 625, rfl⟩
abbrev main_v547 : Ref sig .tc := ⟨.hbm, 626, rfl⟩
abbrev main_v548 : Ref sig .tc := ⟨.hbm, 627, rfl⟩
abbrev main_v549 : Ref sig .tc := ⟨.hbm, 628, rfl⟩
abbrev main_v550 : Ref sig .tc := ⟨.hbm, 629, rfl⟩
abbrev main_v551 : Ref sig .tc := ⟨.hbm, 630, rfl⟩
abbrev main_v552 : Ref sig .tc := ⟨.hbm, 631, rfl⟩
abbrev main_v553 : Ref sig .tc := ⟨.hbm, 632, rfl⟩
abbrev main_v554 : Ref sig .tc := ⟨.hbm, 633, rfl⟩
abbrev main_v555 : Ref sig .tc := ⟨.hbm, 634, rfl⟩
abbrev main_v556 : Ref sig .tc := ⟨.hbm, 635, rfl⟩
abbrev main_v557 : Ref sig .tc := ⟨.hbm, 636, rfl⟩
abbrev main_v558 : Ref sig .tc := ⟨.hbm, 637, rfl⟩
abbrev main_v559 : Ref sig .tc := ⟨.hbm, 638, rfl⟩
abbrev main_cst_71 : Ref sig .tc := ⟨.hbm, 639, rfl⟩
abbrev main_v560 : Ref sig .tc := ⟨.hbm, 640, rfl⟩
abbrev main_v561 : Ref sig .tc := ⟨.hbm, 641, rfl⟩
abbrev main_cst_72 : Ref sig .tc := ⟨.hbm, 642, rfl⟩
abbrev main_v562 : Ref sig .tc := ⟨.hbm, 643, rfl⟩
abbrev main_cst_73 : Ref sig .tc := ⟨.hbm, 644, rfl⟩
abbrev main_v563 : Ref sig .tc := ⟨.hbm, 645, rfl⟩
abbrev main_v564 : Ref sig .tc := ⟨.hbm, 646, rfl⟩
abbrev main_v565 : Ref sig .tc := ⟨.hbm, 647, rfl⟩
abbrev main_v566 : Ref sig .tc := ⟨.hbm, 648, rfl⟩
abbrev main_v567 : Ref sig .tc := ⟨.hbm, 649, rfl⟩
abbrev main_cst_74 : Ref sig .tc := ⟨.hbm, 650, rfl⟩
abbrev main_v568 : Ref sig .tc := ⟨.hbm, 651, rfl⟩
abbrev main_v569 : Ref sig .tc := ⟨.hbm, 652, rfl⟩
abbrev main_v570 : Ref sig .tc := ⟨.hbm, 653, rfl⟩
abbrev main_v571 : Ref sig .tc := ⟨.hbm, 654, rfl⟩
abbrev main_v572 : Ref sig .tc := ⟨.hbm, 655, rfl⟩
abbrev main_v573 : Ref sig .tc := ⟨.hbm, 656, rfl⟩
abbrev main_v574 : Ref sig .tc := ⟨.hbm, 657, rfl⟩
abbrev main_v575 : Ref sig .tc := ⟨.hbm, 658, rfl⟩
abbrev main_v576 : Ref sig .tc := ⟨.hbm, 659, rfl⟩
abbrev main_v577 : Ref sig .tc := ⟨.hbm, 660, rfl⟩
abbrev main_v578 : Ref sig .tc := ⟨.hbm, 661, rfl⟩
abbrev main_v579 : Ref sig .tc := ⟨.hbm, 662, rfl⟩
abbrev main_v580 : Ref sig .tc := ⟨.hbm, 663, rfl⟩
abbrev main_v581 : Ref sig .tc := ⟨.hbm, 664, rfl⟩
abbrev main_cst_75 : Ref sig .tc := ⟨.hbm, 665, rfl⟩
abbrev main_v582 : Ref sig .tc := ⟨.hbm, 666, rfl⟩
abbrev main_v583 : Ref sig .tc := ⟨.hbm, 667, rfl⟩
abbrev main_cst_76 : Ref sig .tc := ⟨.hbm, 668, rfl⟩
abbrev main_v584 : Ref sig .tc := ⟨.hbm, 669, rfl⟩
abbrev main_cst_77 : Ref sig .tc := ⟨.hbm, 670, rfl⟩
abbrev main_v585 : Ref sig .tc := ⟨.hbm, 671, rfl⟩
abbrev main_v586 : Ref sig .tc := ⟨.hbm, 672, rfl⟩
abbrev main_v587 : Ref sig .tc := ⟨.hbm, 673, rfl⟩
abbrev main_v588 : Ref sig .tc := ⟨.hbm, 674, rfl⟩
abbrev main_v589 : Ref sig .tc := ⟨.hbm, 675, rfl⟩
abbrev main_cst_78 : Ref sig .tc := ⟨.hbm, 676, rfl⟩
abbrev main_v590 : Ref sig .tc := ⟨.hbm, 677, rfl⟩
abbrev main_v591 : Ref sig .tc := ⟨.hbm, 678, rfl⟩
abbrev main_v592 : Ref sig .tc := ⟨.hbm, 679, rfl⟩
abbrev main_v593 : Ref sig .tc := ⟨.hbm, 680, rfl⟩
abbrev main_v594 : Ref sig .tc := ⟨.hbm, 681, rfl⟩
abbrev main_v595 : Ref sig .tc := ⟨.hbm, 682, rfl⟩
abbrev main_v596 : Ref sig .tc := ⟨.hbm, 683, rfl⟩
abbrev main_v597 : Ref sig .tc := ⟨.hbm, 684, rfl⟩
abbrev main_v598 : Ref sig .tc := ⟨.hbm, 685, rfl⟩
abbrev main_v599 : Ref sig .tc := ⟨.hbm, 686, rfl⟩
abbrev main_v600 : Ref sig .tc := ⟨.hbm, 687, rfl⟩
abbrev main_v601 : Ref sig .tc := ⟨.hbm, 688, rfl⟩
abbrev main_v602 : Ref sig .tc := ⟨.hbm, 689, rfl⟩
abbrev main_v603 : Ref sig .tc := ⟨.hbm, 690, rfl⟩
abbrev main_cst_79 : Ref sig .tc := ⟨.hbm, 691, rfl⟩
abbrev main_v604 : Ref sig .tc := ⟨.hbm, 692, rfl⟩
abbrev main_v605 : Ref sig .tc := ⟨.hbm, 693, rfl⟩
abbrev main_cst_80 : Ref sig .tc := ⟨.hbm, 694, rfl⟩
abbrev main_v606 : Ref sig .tc := ⟨.hbm, 695, rfl⟩
abbrev main_cst_81 : Ref sig .tc := ⟨.hbm, 696, rfl⟩
abbrev main_v607 : Ref sig .tc := ⟨.hbm, 697, rfl⟩
abbrev main_v608 : Ref sig .tc := ⟨.hbm, 698, rfl⟩
abbrev main_v609 : Ref sig .tc := ⟨.hbm, 699, rfl⟩
abbrev main_v610 : Ref sig .tc := ⟨.hbm, 700, rfl⟩
abbrev main_v611 : Ref sig .tc := ⟨.hbm, 701, rfl⟩
abbrev main_cst_82 : Ref sig .tc := ⟨.hbm, 702, rfl⟩
abbrev main_v612 : Ref sig .tc := ⟨.hbm, 703, rfl⟩
abbrev main_v613 : Ref sig .tc := ⟨.hbm, 704, rfl⟩
abbrev main_v614 : Ref sig .tc := ⟨.hbm, 705, rfl⟩
abbrev main_v615 : Ref sig .tc := ⟨.hbm, 706, rfl⟩
abbrev main_v616 : Ref sig .tc := ⟨.hbm, 707, rfl⟩
abbrev main_v617 : Ref sig .tc := ⟨.hbm, 708, rfl⟩
abbrev main_v618 : Ref sig .tc := ⟨.hbm, 709, rfl⟩
abbrev main_v619 : Ref sig .tc := ⟨.hbm, 710, rfl⟩
abbrev main_v620 : Ref sig .tc := ⟨.hbm, 711, rfl⟩
abbrev main_v621 : Ref sig .tc := ⟨.hbm, 712, rfl⟩
abbrev main_v622 : Ref sig .tc := ⟨.hbm, 713, rfl⟩
abbrev main_v623 : Ref sig .tc := ⟨.hbm, 714, rfl⟩
abbrev main_v624 : Ref sig .tc := ⟨.hbm, 715, rfl⟩
abbrev main_v625 : Ref sig .tc := ⟨.hbm, 716, rfl⟩
abbrev main_cst_83 : Ref sig .tc := ⟨.hbm, 717, rfl⟩
abbrev main_v626 : Ref sig .tc := ⟨.hbm, 718, rfl⟩
abbrev main_v627 : Ref sig .tc := ⟨.hbm, 719, rfl⟩
abbrev main_cst_84 : Ref sig .tc := ⟨.hbm, 720, rfl⟩
abbrev main_v628 : Ref sig .tc := ⟨.hbm, 721, rfl⟩
abbrev main_cst_85 : Ref sig .tc := ⟨.hbm, 722, rfl⟩
abbrev main_v629 : Ref sig .tc := ⟨.hbm, 723, rfl⟩
abbrev main_v630 : Ref sig .tc := ⟨.hbm, 724, rfl⟩
abbrev main_v631 : Ref sig .tc := ⟨.hbm, 725, rfl⟩
abbrev main_v632 : Ref sig .tc := ⟨.hbm, 726, rfl⟩
abbrev main_v633 : Ref sig .tc := ⟨.hbm, 727, rfl⟩
abbrev main_cst_86 : Ref sig .tc := ⟨.hbm, 728, rfl⟩
abbrev main_v634 : Ref sig .tc := ⟨.hbm, 729, rfl⟩
abbrev main_v635 : Ref sig .tc := ⟨.hbm, 730, rfl⟩
abbrev main_v636 : Ref sig .tc := ⟨.hbm, 731, rfl⟩
abbrev main_v637 : Ref sig .tc := ⟨.hbm, 732, rfl⟩
abbrev main_v638 : Ref sig .tc := ⟨.hbm, 733, rfl⟩
abbrev main_v639 : Ref sig .tc := ⟨.hbm, 734, rfl⟩
abbrev main_v640 : Ref sig .tc := ⟨.hbm, 735, rfl⟩
abbrev main_v641 : Ref sig .tc := ⟨.hbm, 736, rfl⟩
abbrev main_v642 : Ref sig .tc := ⟨.hbm, 737, rfl⟩
abbrev main_v643 : Ref sig .tc := ⟨.hbm, 738, rfl⟩
abbrev main_v644 : Ref sig .tc := ⟨.hbm, 739, rfl⟩
abbrev main_v645 : Ref sig .tc := ⟨.hbm, 740, rfl⟩
abbrev main_v646 : Ref sig .tc := ⟨.hbm, 741, rfl⟩
abbrev main_v647 : Ref sig .tc := ⟨.hbm, 742, rfl⟩
abbrev main_cst_87 : Ref sig .tc := ⟨.hbm, 743, rfl⟩
abbrev main_v648 : Ref sig .tc := ⟨.hbm, 744, rfl⟩
abbrev main_v649 : Ref sig .tc := ⟨.hbm, 745, rfl⟩
abbrev main_cst_88 : Ref sig .tc := ⟨.hbm, 746, rfl⟩
abbrev main_v650 : Ref sig .tc := ⟨.hbm, 747, rfl⟩
abbrev main_cst_89 : Ref sig .tc := ⟨.hbm, 748, rfl⟩
abbrev main_v651 : Ref sig .tc := ⟨.hbm, 749, rfl⟩
abbrev main_v652 : Ref sig .tc := ⟨.hbm, 750, rfl⟩
abbrev main_v653 : Ref sig .tc := ⟨.hbm, 751, rfl⟩
abbrev main_v654 : Ref sig .tc := ⟨.hbm, 752, rfl⟩
abbrev main_v655 : Ref sig .tc := ⟨.hbm, 753, rfl⟩
abbrev main_cst_90 : Ref sig .tc := ⟨.hbm, 754, rfl⟩
abbrev main_v656 : Ref sig .tc := ⟨.hbm, 755, rfl⟩
abbrev main_v657 : Ref sig .tc := ⟨.hbm, 756, rfl⟩
abbrev main_v658 : Ref sig .tc := ⟨.hbm, 757, rfl⟩
abbrev main_v659 : Ref sig .tc := ⟨.hbm, 758, rfl⟩
abbrev main_v660 : Ref sig .tc := ⟨.hbm, 759, rfl⟩
abbrev main_v661 : Ref sig .tc := ⟨.hbm, 760, rfl⟩
abbrev main_v662 : Ref sig .tc := ⟨.hbm, 761, rfl⟩
abbrev main_v663 : Ref sig .tc := ⟨.hbm, 762, rfl⟩
abbrev main_v664 : Ref sig .tc := ⟨.hbm, 763, rfl⟩
abbrev main_v665 : Ref sig .tc := ⟨.hbm, 764, rfl⟩
abbrev main_v666 : Ref sig .tc := ⟨.hbm, 765, rfl⟩
abbrev main_v667 : Ref sig .tc := ⟨.hbm, 766, rfl⟩
abbrev main_v668 : Ref sig .tc := ⟨.hbm, 767, rfl⟩
abbrev main_v669 : Ref sig .tc := ⟨.hbm, 768, rfl⟩
abbrev main_cst_91 : Ref sig .tc := ⟨.hbm, 769, rfl⟩
abbrev main_v670 : Ref sig .tc := ⟨.hbm, 770, rfl⟩
abbrev main_v671 : Ref sig .tc := ⟨.hbm, 771, rfl⟩
abbrev main_cst_92 : Ref sig .tc := ⟨.hbm, 772, rfl⟩
abbrev main_v672 : Ref sig .tc := ⟨.hbm, 773, rfl⟩
abbrev main_cst_93 : Ref sig .tc := ⟨.hbm, 774, rfl⟩
abbrev main_v673 : Ref sig .tc := ⟨.hbm, 775, rfl⟩
abbrev main_v674 : Ref sig .tc := ⟨.hbm, 776, rfl⟩
abbrev main_v675 : Ref sig .tc := ⟨.hbm, 777, rfl⟩
abbrev main_v676 : Ref sig .tc := ⟨.hbm, 778, rfl⟩
abbrev main_v677 : Ref sig .tc := ⟨.hbm, 779, rfl⟩
abbrev main_cst_94 : Ref sig .tc := ⟨.hbm, 780, rfl⟩
abbrev main_v678 : Ref sig .tc := ⟨.hbm, 781, rfl⟩
abbrev main_v679 : Ref sig .tc := ⟨.hbm, 782, rfl⟩
abbrev main_v680 : Ref sig .tc := ⟨.hbm, 783, rfl⟩
abbrev main_v681 : Ref sig .tc := ⟨.hbm, 784, rfl⟩
abbrev main_v682 : Ref sig .tc := ⟨.hbm, 785, rfl⟩
abbrev main_v683 : Ref sig .tc := ⟨.hbm, 786, rfl⟩
abbrev main_v684 : Ref sig .tc := ⟨.hbm, 787, rfl⟩
abbrev main_v685 : Ref sig .tc := ⟨.hbm, 788, rfl⟩
abbrev main_v686 : Ref sig .tc := ⟨.hbm, 789, rfl⟩
abbrev main_v687 : Ref sig .tc := ⟨.hbm, 790, rfl⟩
abbrev main_v688 : Ref sig .tc := ⟨.hbm, 791, rfl⟩
abbrev main_v689 : Ref sig .tc := ⟨.hbm, 792, rfl⟩
abbrev main_v690 : Ref sig .tc := ⟨.hbm, 793, rfl⟩
abbrev main_v691 : Ref sig .tc := ⟨.hbm, 794, rfl⟩
abbrev main_cst_95 : Ref sig .tc := ⟨.hbm, 795, rfl⟩
abbrev main_v692 : Ref sig .tc := ⟨.hbm, 796, rfl⟩
abbrev main_v693 : Ref sig .tc := ⟨.hbm, 797, rfl⟩
abbrev main_cst_96 : Ref sig .tc := ⟨.hbm, 798, rfl⟩
abbrev main_v694 : Ref sig .tc := ⟨.hbm, 799, rfl⟩
abbrev main_cst_97 : Ref sig .tc := ⟨.hbm, 800, rfl⟩
abbrev main_v695 : Ref sig .tc := ⟨.hbm, 801, rfl⟩
abbrev main_v696 : Ref sig .tc := ⟨.hbm, 802, rfl⟩
abbrev main_cst_98 : Ref sig .tc := ⟨.hbm, 803, rfl⟩
abbrev main_v697 : Ref sig .tc := ⟨.hbm, 804, rfl⟩
abbrev main_cst_99 : Ref sig .tc := ⟨.hbm, 805, rfl⟩
abbrev main_v698 : Ref sig .tc := ⟨.hbm, 806, rfl⟩
abbrev main_v699 : Ref sig .tc := ⟨.hbm, 807, rfl⟩
abbrev main_cst_100 : Ref sig .tc := ⟨.hbm, 808, rfl⟩
abbrev main_v700 : Ref sig .tc := ⟨.hbm, 809, rfl⟩
abbrev main_cst_101 : Ref sig .tc := ⟨.hbm, 810, rfl⟩
abbrev main_v701 : Ref sig .tc := ⟨.hbm, 811, rfl⟩
abbrev main_v702 : Ref sig .tc := ⟨.hbm, 812, rfl⟩
abbrev main_v703 : Ref sig .tc := ⟨.hbm, 813, rfl⟩
abbrev main_cst_102 : Ref sig .tc := ⟨.hbm, 814, rfl⟩
abbrev main_v704 : Ref sig .tc := ⟨.hbm, 815, rfl⟩
abbrev main_cst_103 : Ref sig .tc := ⟨.hbm, 816, rfl⟩
abbrev main_v705 : Ref sig .tc := ⟨.hbm, 817, rfl⟩
abbrev main_v706 : Ref sig .tc := ⟨.hbm, 818, rfl⟩
abbrev main_cst_104 : Ref sig .tc := ⟨.hbm, 819, rfl⟩
abbrev main_v707 : Ref sig .tc := ⟨.hbm, 820, rfl⟩
abbrev main_cst_105 : Ref sig .tc := ⟨.hbm, 821, rfl⟩
abbrev main_v708 : Ref sig .tc := ⟨.hbm, 822, rfl⟩
abbrev main_v709 : Ref sig .tc := ⟨.hbm, 823, rfl⟩
abbrev main_cst_106 : Ref sig .tc := ⟨.hbm, 824, rfl⟩
abbrev main_v710 : Ref sig .tc := ⟨.hbm, 825, rfl⟩
abbrev main_v711 : Ref sig .tc := ⟨.hbm, 826, rfl⟩
abbrev main_cst_107 : Ref sig .tc := ⟨.hbm, 827, rfl⟩
abbrev main_v712 : Ref sig .tc := ⟨.hbm, 828, rfl⟩
abbrev main_cst_108 : Ref sig .tc := ⟨.hbm, 829, rfl⟩
abbrev main_v713 : Ref sig .tc := ⟨.hbm, 830, rfl⟩
abbrev main_v714 : Ref sig .tc := ⟨.hbm, 831, rfl⟩
abbrev main_cst_109 : Ref sig .tc := ⟨.hbm, 832, rfl⟩
abbrev main_v715 : Ref sig .tc := ⟨.hbm, 833, rfl⟩
abbrev main_v716 : Ref sig .tc := ⟨.hbm, 834, rfl⟩
abbrev main_v717 : Ref sig .tc := ⟨.hbm, 835, rfl⟩
abbrev main_v718 : Ref sig .tc := ⟨.hbm, 836, rfl⟩
abbrev main_cst_110 : Ref sig .tc := ⟨.hbm, 837, rfl⟩
abbrev main_v719 : Ref sig .tc := ⟨.hbm, 838, rfl⟩
abbrev main_cst_111 : Ref sig .tc := ⟨.hbm, 839, rfl⟩
abbrev main_v720 : Ref sig .tc := ⟨.hbm, 840, rfl⟩
abbrev main_v721 : Ref sig .tc := ⟨.hbm, 841, rfl⟩
abbrev main_v722 : Ref sig .tc := ⟨.hbm, 842, rfl⟩
abbrev main_cst_112 : Ref sig .tc := ⟨.hbm, 843, rfl⟩
abbrev main_v723 : Ref sig .tc := ⟨.hbm, 844, rfl⟩
abbrev main_v724 : Ref sig .tc := ⟨.hbm, 845, rfl⟩
abbrev main_cst_113 : Ref sig .tc := ⟨.hbm, 846, rfl⟩
abbrev main_v725 : Ref sig .tc := ⟨.hbm, 847, rfl⟩
abbrev main_v726 : Ref sig .tc := ⟨.hbm, 848, rfl⟩
abbrev main_v727 : Ref sig .tc := ⟨.hbm, 849, rfl⟩
abbrev main_v728 : Ref sig .tc := ⟨.hbm, 850, rfl⟩
abbrev main_cst_114 : Ref sig .tc := ⟨.hbm, 851, rfl⟩
abbrev main_v729 : Ref sig .tc := ⟨.hbm, 852, rfl⟩
abbrev main_cst_115 : Ref sig .tc := ⟨.hbm, 853, rfl⟩
abbrev main_v730 : Ref sig .tc := ⟨.hbm, 854, rfl⟩
abbrev main_v731 : Ref sig .tc := ⟨.hbm, 855, rfl⟩
abbrev main_v732 : Ref sig .tc := ⟨.hbm, 856, rfl⟩
abbrev main_v733 : Ref sig .tc := ⟨.hbm, 857, rfl⟩
abbrev main_cst_116 : Ref sig .tc := ⟨.hbm, 858, rfl⟩
abbrev main_v734 : Ref sig .tc := ⟨.hbm, 859, rfl⟩
abbrev main_v735 : Ref sig .tc := ⟨.hbm, 860, rfl⟩
abbrev main_v736 : Ref sig .tc := ⟨.hbm, 861, rfl⟩
abbrev main_v737 : Ref sig .tc := ⟨.hbm, 862, rfl⟩
abbrev main_cst_117 : Ref sig .tc := ⟨.hbm, 863, rfl⟩
abbrev main_v738 : Ref sig .tc := ⟨.hbm, 864, rfl⟩
abbrev main_v739 : Ref sig .tc := ⟨.hbm, 865, rfl⟩
abbrev main_cst_118 : Ref sig .tc := ⟨.hbm, 866, rfl⟩
abbrev main_v740 : Ref sig .tc := ⟨.hbm, 867, rfl⟩
abbrev main_v741 : Ref sig .tc := ⟨.hbm, 868, rfl⟩
abbrev main_v742 : Ref sig .tc := ⟨.hbm, 869, rfl⟩
abbrev main_cst_119 : Ref sig .tc := ⟨.hbm, 870, rfl⟩
abbrev main_v743 : Ref sig .tc := ⟨.hbm, 871, rfl⟩
abbrev main_v744 : Ref sig .tc := ⟨.hbm, 872, rfl⟩
abbrev main_v745 : Ref sig .tc := ⟨.hbm, 873, rfl⟩
abbrev main_cst_120 : Ref sig .tc := ⟨.hbm, 874, rfl⟩
abbrev main_v746 : Ref sig .tc := ⟨.hbm, 875, rfl⟩
abbrev main_v747 : Ref sig .tc := ⟨.hbm, 876, rfl⟩
abbrev main_v748 : Ref sig .tc := ⟨.hbm, 877, rfl⟩
abbrev main_v749 : Ref sig .tc := ⟨.hbm, 878, rfl⟩
abbrev main_v750 : Ref sig .tc := ⟨.hbm, 879, rfl⟩
abbrev main_v751 : Ref sig .tc := ⟨.hbm, 880, rfl⟩
abbrev main_v752 : Ref sig .tc := ⟨.hbm, 881, rfl⟩
abbrev main_cst_121 : Ref sig .tc := ⟨.hbm, 882, rfl⟩
abbrev main_v753 : Ref sig .tc := ⟨.hbm, 883, rfl⟩
abbrev main_cst_122 : Ref sig .tc := ⟨.hbm, 884, rfl⟩
abbrev main_v754 : Ref sig .tc := ⟨.hbm, 885, rfl⟩
abbrev main_v755 : Ref sig .tc := ⟨.hbm, 886, rfl⟩
abbrev main_v756 : Ref sig .tc := ⟨.hbm, 887, rfl⟩
abbrev main_v757 : Ref sig .tc := ⟨.hbm, 888, rfl⟩
abbrev main_cst_123 : Ref sig .tc := ⟨.hbm, 889, rfl⟩
abbrev main_v758 : Ref sig .tc := ⟨.hbm, 890, rfl⟩
abbrev main_cst_124 : Ref sig .tc := ⟨.hbm, 891, rfl⟩
abbrev main_v759 : Ref sig .tc := ⟨.hbm, 892, rfl⟩
abbrev main_cst_125 : Ref sig .tc := ⟨.hbm, 893, rfl⟩
abbrev main_v760 : Ref sig .tc := ⟨.hbm, 894, rfl⟩
abbrev main_v761 : Ref sig .tc := ⟨.hbm, 895, rfl⟩
abbrev main_v762 : Ref sig .tc := ⟨.hbm, 896, rfl⟩

abbrev nD : Nat := 1
abbrev τ : Topo := Topo.v7x

variable {F : FTy → Type} [FloatOps F]
-- ==== Proof.Body.lean ====
/- What one run of the kernel's body computes, said once for both images and all twenty boxes.

   The printed body is one straight line of operations over whole registers. Here the line is folded back: a box's step
   on the eight running arrays (`advance`), the convolution of one image (`conv`), the five sums of one image, and the
   value stored at the end (`loss`). `body_reads` says the value the run stores is that `loss`. -/
module

public import proofs.«01_k».proof.Proof.Gen.KernelIdeal.Value
public import Idealize.ShloMosaic.Lib.ValueIdx

@[expose] public section

set_option maxRecDepth 65536

noncomputable section

namespace Cert.KernelIdeal.Body

open Cert.KernelIdeal Cert.KernelIdeal.Gen Idealize.ShloMosaic Idealize.ShloMosaic.TcCoe Idealize.SL.Sem

variable {F : FTy → Type} [FloatOps F]

/-- One plane of numbers, a number per voxel: 256 rows of 128 lanes. -/
abbrev Plane (F : FTy → Type) := FVec F S256x128 .f32

/-- The plane holding one number everywhere. -/
def all (x : F .f32) : Plane F := broadcast S256x128 x

/-- The distance of each voxel from a box's centre, in units of the box's lengths: the largest of the three axes. -/
def dist (p : Fin 10 → F .f32) : Plane F :=
  maximumf (maximumf (mulf (absf (subf (all (p 0)) k0_pay1)) (all (p 3)))
      (mulf (absf (subf (all (p 1)) k0_pay2)) (all (p 4))))
    (mulf (absf (subf (all (p 2)) k0_pay3)) (all (p 5)))

/-- The box's score where a distance is below a threshold, zero elsewhere. -/
def mark (thr : BitVec 32) (p : Fin 10 → F .f32) : Plane F :=
  select (cmpf .olt (dist p) (all (Scalar.ofBits .f32 thr))) (all (p 9)) (all (Scalar.ofBits .f32 0x00000000#32))

/-- The arrays carried from box to box: the voxels covered, the voxels nearly covered, and the six target offsets. -/
structure St (F : FTy → Type) where
  pos : Plane F
  near : Plane F
  g0 : Plane F
  g1 : Plane F
  g2 : Plane F
  g3 : Plane F
  g4 : Plane F
  g5 : Plane F

/-- All arrays zero. -/
def start : St F :=
  ⟨all (Scalar.ofBits .f32 0x00000000#32), all (Scalar.ofBits .f32 0x00000000#32), all (Scalar.ofBits .f32 0x00000000#32),
   all (Scalar.ofBits .f32 0x00000000#32), all (Scalar.ofBits .f32 0x00000000#32), all (Scalar.ofBits .f32 0x00000000#32),
   all (Scalar.ofBits .f32 0x00000000#32), all (Scalar.ofBits .f32 0x00000000#32)⟩

/-- The weight of a box's offsets: its mark where no earlier box covers. -/
def weight (p : Fin 10 → F .f32) (s : St F) : Plane F :=
  mulf (mark 0x3F000000#32 p) (subf (all (Scalar.ofBits .f32 0x3F800000#32)) s.pos)

/-- One box: its offsets enter where no earlier box covers, and it is added to the voxels covered. -/
def advance (p : Fin 10 → F .f32) (s : St F) : St F where
  pos := maximumf s.pos (mark 0x3F000000#32 p)
  near := maximumf s.near (mark 0x3F4CCCCD#32 p)
  g0 := addf s.g0 (mulf (weight p s) (mulf (subf (all (p 0)) k0_pay1) (all (Scalar.ofBits .f32 0x3F000000#32))))
  g1 := addf s.g1 (mulf (weight p s) (mulf (subf (all (p 1)) k0_pay2) (all (Scalar.ofBits .f32 0x3F000000#32))))
  g2 := addf s.g2 (mulf (weight p s) (mulf (subf (all (p 2)) k0_pay3) (all (Scalar.ofBits .f32 0x3F000000#32))))
  g3 := addf s.g3 (mulf (weight p s) (all (p 6)))
  g4 := addf s.g4 (mulf (weight p s) (all (p 7)))
  g5 := addf s.g5 (mulf (weight p s) (all (p 8)))

/-- The arrays after the first `n` boxes. -/
def after (P : ℕ → Fin 10 → F .f32) (n : ℕ) : St F :=
  Nat.rec start (fun k s => advance (P k) s) n

/-- The eight channels of the convolution of one image, flat over the voxels: nine shifted, masked products. -/
def conv (t : Fin 9 → Vec F S1x8x96 .bf16) (f : Vec F S1x32x32768 .f32) : FVec F S8x32768 .f32 :=
  k0_pay16 k0_pay7 k0_pay9 k0_pay12 k0_pay13 (k0_pay14 f)
    (k0_pay15 k0_pay6 k0_pay8 k0_pay10 k0_pay11 f (t 0) (t 1) (t 2) (t 3)) (t 4) (t 5) (t 6) (t 7) (t 8)

/-- One channel of the convolution, plus its bias, as a plane. -/
def chan (t : Fin 9 → Vec F S1x8x96 .bf16) (f : Vec F S1x32x32768 .f32) (ch : ℕ)
    (h : S8x256x128.Slices ![ch, 0, 0] S1x256x128) (bias : F .f32) : Plane F :=
  addf (shapeCast S256x128 (extractStridedSlice S1x256x128 ![ch, 0, 0]
      (shapeCast S8x256x128 (conv t f) shapeCasts_S8x32768_S8x256x128) h) shapeCasts_S1x256x128_S256x128) (all bias)

/-- The sum of a plane. -/
def total (v : Plane F) : F .f32 :=
  extractAt ![0, 0, 0] (shapeCast S1x1x1 (multiReduction .add [1, 2] S1
    (shapeCast S1x256x128 v shapeCasts_S256x128_S1x256x128) 0x00000000#32 reduces_S1x256x128_S1 (.inl rfl) rfl)
    shapeCasts_S1_S1x1x1) inpos_S1x1x1_p0_0_0

/-- The smooth absolute value of a plane of errors. -/
def smooth (d : Plane F) : Plane F :=
  select (cmpf .olt (absf d) (all (Scalar.ofBits .f32 0x3DE38E39#32)))
    (mulf (mulf (all (Scalar.ofBits .f32 0x40900000#32)) d) d)
    (subf (absf d) (all (Scalar.ofBits .f32 0x3D638E39#32)))

/-- The probability a voxel holds an object. -/
def prob (t : Fin 9 → Vec F S1x8x96 .bf16) (f : Vec F S1x32x32768 .f32) (β : ℕ → F .f32) : Plane F :=
  logistic (chan t f 0 slices_S8x256x128_o0_0_0_S1x256x128 (β 0))

/-- The voxels no box comes near. -/
def far (s : St F) : Plane F := subf (all (Scalar.ofBits .f32 0x3F800000#32)) s.near

/-- The summand of the loss over covered voxels. -/
def clsPos (q : Plane F) (s : St F) : Plane F :=
  mulf (subf (all (Scalar.ofBits .f32 0x00000000#32)) s.pos) (log (addf q (all (Scalar.ofBits .f32 0x358637BD#32))))

/-- The summand of the loss over voxels no box comes near. -/
def clsNeg (q : Plane F) (s : St F) : Plane F :=
  mulf (subf (all (Scalar.ofBits .f32 0x00000000#32)) (far s))
    (log (addf (subf (all (Scalar.ofBits .f32 0x3F800000#32)) q) (all (Scalar.ofBits .f32 0x358637BD#32))))

/-- The summand of the offset loss: the six smooth errors, where the voxel is covered. -/
def reg (t : Fin 9 → Vec F S1x8x96 .bf16) (f : Vec F S1x32x32768 .f32) (β : ℕ → F .f32) (s : St F) : Plane F :=
  mulf (addf (addf (addf (addf (addf
    (smooth (subf (chan t f 1 slices_S8x256x128_o1_0_0_S1x256x128 (β 1)) s.g0))
    (smooth (subf (chan t f 2 slices_S8x256x128_o2_0_0_S1x256x128 (β 2)) s.g1)))
    (smooth (subf (chan t f 3 slices_S8x256x128_o3_0_0_S1x256x128 (β 3)) s.g2)))
    (smooth (subf (chan t f 4 slices_S8x256x128_o4_0_0_S1x256x128 (β 4)) s.g3)))
    (smooth (subf (chan t f 5 slices_S8x256x128_o5_0_0_S1x256x128 (β 5)) s.g4)))
    (smooth (subf (chan t f 6 slices_S8x256x128_o6_0_0_S1x256x128 (β 6)) s.g5))) s.pos

/-- A sum over the two images of a sum of planes. -/
def both (u v : Plane F) : F .f32 :=
  Scalar.addf (Scalar.addf (Scalar.ofBits .f32 0x00000000#32) (total u)) (total v)

/-- A quotient by a count, with the small number that keeps the count from zero. -/
def per (a n : F .f32) : F .f32 := Scalar.divf a (Scalar.addf n (Scalar.ofBits .f32 0x358637BD#32))

/-- The value the body stores, from the two images' boxes, the biases, the nine weight slabs and the two images. -/
def loss (P Q : ℕ → Fin 10 → F .f32) (β : ℕ → F .f32) (t : Fin 9 → Vec F S1x8x96 .bf16)
    (f f' : Vec F S1x32x32768 .f32) : F .f32 :=
  Scalar.addf
    (Scalar.addf
      (per (both (clsPos (prob t f β) (after P 20)) (clsPos (prob t f' β) (after Q 20)))
        (both (after P 20).pos (after Q 20).pos))
      (per (both (clsNeg (prob t f β) (after P 20)) (clsNeg (prob t f' β) (after Q 20)))
        (both (far (after P 20)) (far (after Q 20)))))
    (per (both (reg t f β (after P 20)) (reg t f' β (after Q 20))) (both (after P 20).pos (after Q 20).pos))

/-- Every entry of the parameter table lies inside it. -/
theorem entry_inside (b : Fin 2) (n : Fin 21) (j : Fin 10) (k : Fin 3) :
    (![b.val, n.val, j.val] : Fin 3 → ℕ) k + S1x1x1.size k ≤ S2x21x10.size k := by
  fin_cases k
  · exact b.isLt
  · exact n.isLt
  · exact j.isLt

/-- Every slab of the weights lies inside them. -/
theorem slab_inside (q : Fin 9) (k : Fin 3) :
    (![q.val, 0, 0] : Fin 3 → ℕ) k + S1x8x96.size k ≤ S9x8x96.size k := by
  have := q.isLt
  fin_cases k <;> simp [S1x8x96, S9x8x96] <;> omega

/-- An entry of the parameter table, as the body loads it. -/
def entry (arg0 : Memref sig .tc .smem S2x21x10 .f32) (harg0 : arg0.IsWhole) (x0 : Vec F S2x21x10 .f32)
    (b : Fin 2) (n : Fin 21) (j : Fin 10) : F .f32 :=
  View.readAt (Elt F) arg0.view (Rect.unit (s := S2x21x10) ![b.val, n.val, j.val] S1x1x1.size (entry_inside b n j)).toLoadRect
    (harg0.unread x0) (Shape.Idx.first (numel1_S1x1x1.symm ▸ Nat.one_pos))

/-- The value the run stores is `loss` of the entries and blocks it loads. -/
theorem body_reads (c : Dev nD) (arg0 : Memref sig .tc .smem S2x21x10 .f32) (harg0 : arg0.IsWhole) (arg1 : Memref sig .tc .vmem S9x8x96 .bf16) (harg1 : arg1.IsWhole) (arg2 : Memref sig .tc .vmem S2x32x32768 .f32) (harg2 : arg2.IsWhole) (arg3 : Memref sig .tc .smem S1x1 .f32) (harg3 : arg3.IsWhole)
    (x0 : Vec F S2x21x10 .f32) (x1 : Vec F S9x8x96 .bf16) (x2 : Vec F S2x32x32768 .f32) :
    out0_A_3 c arg0 harg0 arg1 harg1 arg2 harg2 arg3 harg3 x0 x1 x2 = fun _ =>
      loss (fun n j => entry arg0 harg0 x0 0 (Fin.ofNat 21 n) j) (fun n j => entry arg0 harg0 x0 1 (Fin.ofNat 21 n) j)
        (fun j => entry arg0 harg0 x0 0 20 (Fin.ofNat 10 j))
        (fun q => View.readAt (Elt F) arg1.view (Rect.unit (s := S9x8x96) ![q.val, 0, 0] S1x8x96.size (slab_inside q)).toLoadRect
          (harg1.unread x1))
        (View.readAt (Elt F) arg2.view (Rect.unit (s := S2x32x32768) ![0, 0, 0] S1x32x32768.size inb_S2x32x32768_S1x32x32768_0_0_0).toLoadRect
          (harg2.unread x2))
        (View.readAt (Elt F) arg2.view (Rect.unit (s := S2x32x32768) ![1, 0, 0] S1x32x32768.size inb_S2x32x32768_S1x32x32768_1_0_0).toLoadRect
          (harg2.unread x2)) := by
  unfold out0_A_3
  rw [View.read_writes_eq_canon _ _ _ (cover0_A_3 c _ _ _ _ _ _ _ _ _ _ _)]
  unfold kernelRun0_A
  dsimp only
  sl_unfold_words
  rw [View.canon_unit_zero (funext fun a => by fin_cases a <;> rfl)]
  rfl

end Cert.KernelIdeal.Body
-- ==== Proof.Flags.lean ====
/- Facts about extended reals that the comparison of the two programs rests on: a comparison that does not mind how a
   quotient is spelt, the two ways to mark the voxels that boxes cover, and the two ways to write the smooth error. -/
module

public import Idealize.ShloMosaic.Lib.Pointwise

@[expose] public section

noncomputable section

namespace Cert.Flags

open Idealize.ShloMosaic

/-- One half. -/
abbrev half : EReal := Ideal.ofBits .f32 0x3F000000#32
/-- The threshold of nearness, the single-precision number next to 0.8. -/
abbrev nigh : EReal := Ideal.ofBits .f32 0x3F4CCCCD#32
/-- Two. -/
abbrev two : EReal := Ideal.ofBits .f32 0x40000000#32

theorem half_eq : half = ((1 / 2 : ℝ) : EReal) := by
  simp [half, Ideal.ofBits, Ideal.ieee]; norm_num; rw [← EReal.coe_mul]; norm_num

theorem two_eq : two = ((2 : ℝ) : EReal) := by
  simp [two, Ideal.ofBits, Ideal.ieee]; norm_num; rw [← EReal.coe_mul]; norm_num

theorem half_pos : 0 < half := by rw [half_eq]; exact_mod_cast (by norm_num : (0 : ℝ) < 1 / 2)

theorem half_lt_one : half < 1 := by rw [half_eq]; exact_mod_cast (by norm_num : (1 / 2 : ℝ) < 1)

theorem nigh_pos : 0 < nigh := by
  have h : nigh = ((13421773 / 16777216 : ℝ) : EReal) := by
    simp [nigh, Ideal.ofBits, Ideal.ieee]; norm_num; rw [← EReal.coe_mul]; norm_num
  rw [h]; exact_mod_cast (by norm_num : (0 : ℝ) < 13421773 / 16777216)

/-- Half of nine is the factor of the square in the smooth error. -/
theorem half_nine : half * Ideal.ofBits .f32 0x41100000#32 = Ideal.ofBits .f32 0x40900000#32 := by
  have h9 : Ideal.ofBits .f32 0x41100000#32 = ((9 : ℝ) : EReal) := by
    simp [Ideal.ofBits, Ideal.ieee]; norm_num; rw [← EReal.coe_mul]; norm_num
  have h4 : Ideal.ofBits .f32 0x40900000#32 = ((9 / 2 : ℝ) : EReal) := by
    simp [Ideal.ofBits, Ideal.ieee]; norm_num; rw [← EReal.coe_mul]; norm_num
  rw [half_eq, h9, h4, ← EReal.coe_mul]; norm_num

/-- Division by two is multiplication by one half. -/
theorem div_two (a : EReal) : Ideal.div a two = a * half := by
  rw [two_eq, Ideal.div_coe (by norm_num), half_eq]

/-- An absolute value is not negative. -/
theorem abs_nonneg (a : EReal) : 0 ≤ max a (-a) := by
  rcases le_total 0 a with h | h
  · exact le_max_of_le_left h
  · exact le_max_of_le_right (by simpa using EReal.neg_le_neg_iff.mpr h)

/-- Whether a quotient lies below a positive bound does not depend on whether it is written as a quotient or as a product
    with the reciprocal, for a numerator that is not negative. (By zero the two differ only where the numerator is zero,
    and there both lie below the bound.) -/
theorem recip_lt {a d c : EReal} (ha : 0 ≤ a) (hc : 0 < c) : a * Ideal.div 1 d < c ↔ Ideal.div a d < c := by
  by_cases hd : d = 0
  · subst hd
    rcases ha.eq_or_lt with h | h
    · subst h; simp [Ideal.div, hc, lt_of_le_of_lt bot_le hc]
    · simp [Ideal.div, h, EReal.mul_top_of_pos h]
  · simp [Ideal.div, hd]

/-- The zero-one value of a sum at the threshold one half. -/
def bin (s : EReal) : EReal := if s < half then 0 else 1

/-- The largest of the first `n` marks, from zero. -/
def top (m : ℕ → EReal) (n : ℕ) : EReal := Nat.rec 0 (fun k s => max s (m k)) n

/-- The offsets gathered over the first `n` boxes: a box's offset enters where no earlier box is marked. -/
def acc (m d : ℕ → EReal) (n : ℕ) : EReal := Nat.rec 0 (fun k g => g + m k * (1 - top m k) * d k) n

theorem top_succ (m : ℕ → EReal) (n : ℕ) : top m (n + 1) = max (top m n) (m n) := rfl

theorem acc_succ (m d : ℕ → EReal) (n : ℕ) : acc m d (n + 1) = acc m d n + m n * (1 - top m n) * d n := rfl

/-- The covered mask as it is carried from box to box by sums brought back to zero or one. -/
def cur (m : ℕ → EReal) (n : ℕ) : EReal := Nat.rec (m 0) (fun k s => bin (s + m (k + 1))) n

/-- The offsets as gathered along that mask. -/
def got (m d : ℕ → EReal) (n : ℕ) : EReal :=
  Nat.rec (d 0 * m 0) (fun k g => g + (1 - cur m k * m (k + 1)) * d (k + 1) * m (k + 1)) n

variable {m : ℕ → EReal} (hm : ∀ k, m k = 0 ∨ m k = 1)

include hm

/-- The largest of marks that are zero or one is zero or one. -/
theorem top_flag (n : ℕ) : top m n = 0 ∨ top m n = 1 := by
  induction n with
  | zero => exact .inl rfl
  | succ n ih =>
    rw [top_succ]
    rcases ih with h | h <;> rcases hm n with h' | h' <;> rw [h, h'] <;> simp

/-- The mask carried by sums is the largest mark so far. -/
theorem cur_eq (n : ℕ) : cur m n = top m (n + 1) := by
  induction n with
  | zero =>
    show m 0 = max 0 (m 0)
    rcases hm 0 with h | h <;> rw [h] <;> simp
  | succ n ih =>
    show bin (cur m n + m (n + 1)) = max (top m (n + 1)) (m (n + 1))
    rw [ih]
    have h2 : ¬ ((1 : EReal) + 1 < half) := not_lt.mpr (half_lt_one.le.trans (by
      have : (1 : EReal) + 0 ≤ 1 + 1 := add_le_add le_rfl zero_le_one
      simpa using this))
    rcases top_flag hm (n + 1) with h | h <;> rcases hm (n + 1) with h' | h' <;> rw [h, h'] <;>
      simp [bin, half_pos, half_lt_one.le, h2]

/-- The two ways to gather the offsets agree. -/
theorem got_eq (d : ℕ → EReal) (n : ℕ) : got m d n = acc m d (n + 1) := by
  induction n with
  | zero =>
    show d 0 * m 0 = 0 + m 0 * (1 - 0) * d 0
    simp [mul_comm]
  | succ n ih =>
    show got m d n + (1 - cur m n * m (n + 1)) * d (n + 1) * m (n + 1)
      = acc m d (n + 1) + m (n + 1) * (1 - top m (n + 1)) * d (n + 1)
    rw [ih, cur_eq hm]
    congr 1
    have h0 : (1 : EReal) - 1 = 0 := by
      rw [← EReal.coe_one, ← EReal.coe_sub]; simp
    rcases top_flag hm (n + 1) with h | h <;> rcases hm (n + 1) with h' | h' <;> rw [h, h'] <;> simp [h0]

/-- The sum of marks that are zero or one, brought back to zero or one, is the largest of them. -/
theorem bin_sum (n : ℕ) : bin (∑ k : Fin n, m k) = top m n := by
  have key : (∑ k : Fin n, m k = 0 ∧ top m n = 0) ∨ (1 ≤ ∑ k : Fin n, m k ∧ top m n = 1) := by
    induction n with
    | zero => exact .inl ⟨by simp, rfl⟩
    | succ n ih =>
      rw [Fin.sum_univ_castSucc, top_succ]
      simp only [Fin.val_castSucc, Fin.val_last]
      rcases ih with ⟨h, t⟩ | ⟨h, t⟩ <;> rcases hm n with h' | h' <;> rw [t, h']
      · exact .inl ⟨by rw [h, add_zero], by simp⟩
      · exact .inr ⟨by rw [h, zero_add], by simp⟩
      · exact .inr ⟨by rwa [add_zero], by simp⟩
      · exact .inr ⟨h.trans (by simpa using add_le_add (le_refl (∑ k : Fin n, m k)) (zero_le_one (α := EReal))), by simp⟩
  rcases key with ⟨h, t⟩ | ⟨h, t⟩
  · rw [h, t]; simp [bin, half_pos]
  · rw [t]; simp [bin, not_lt.mpr (half_lt_one.le.trans h)]

omit hm

/-- The smooth error: a square near zero, a straight line away from it. -/
def smooth (e : EReal) : EReal :=
  if max e (-e) < Ideal.ofBits .f32 0x3DE38E39#32 then Ideal.ofBits .f32 0x40900000#32 * e * e
  else max e (-e) - Ideal.ofBits .f32 0x3D638E39#32

/-- The smooth error written as a sum of its two branches, each times the sign of its case. -/
theorem smooth_eq (e s : EReal)
    (hs : s = if max e (-e) < Ideal.ofBits .f32 0x3DE38E39#32 then 1 else 0) :
    e * e * half * Ideal.ofBits .f32 0x41100000#32 * s + (max e (-e) - Ideal.ofBits .f32 0x3D638E39#32) * (1 - s)
      = smooth e := by
  have h0 : (1 : EReal) - 1 = 0 := by rw [← EReal.coe_one, ← EReal.coe_sub]; simp
  unfold smooth
  rw [hs]
  split
  · rw [h0, mul_zero, add_zero, mul_one, mul_assoc, half_nine, mul_comm, mul_assoc]
  · simp

end Cert.Flags
-- ==== Proof.Spec.lean ====
/- The loss as mathematics: one formula over the five argument arrays, which both programs are shown to compute.

   A voxel is three coordinates below 32. `cover` and `delta` say what one box contributes at a voxel, `pred` is the
   convolution at a voxel, and `value` the loss. -/
module

public import proofs.«01_k».proof.Proof.Flags

@[expose] public section

noncomputable section

namespace Cert.Spec

open Idealize.ShloMosaic Cert.Flags

/-- The boxes: three lengths and a four by four placement, for each of twenty boxes of two images. -/
abbrev Boxes := FVec Ideal (⟨3, ![2, 20, 19]⟩ : Shape) .f32
/-- The boxes' scores. -/
abbrev Scores := FVec Ideal (⟨2, ![2, 20]⟩ : Shape) .f32
/-- The features: image, channel, then z, y, x. -/
abbrev Feats := FVec Ideal (⟨5, ![2, 32, 32, 32, 32]⟩ : Shape) .f32
/-- The weights: output channel, input channel, then the taps along x, y, z. -/
abbrev Weights := FVec Ideal (⟨5, ![7, 32, 3, 3, 3]⟩ : Shape) .f32
/-- The biases. -/
abbrev Bias := FVec Ideal (⟨1, ![7]⟩ : Shape) .f32
/-- A voxel: its x, y and z. -/
abbrev Voxel := Fin 3 → Fin 32

/-- A coordinate as a number. -/
def coord (i : ℕ) : EReal := (((BitVec.ofNat 32 i).toInt : ℝ) : EReal)

variable (X : Boxes) (S : Scores) (f : Feats) (w : Weights) (β : Bias)

/-- A length of a box. -/
def len (b : Fin 2) (n : Fin 20) (a : Fin 3) : EReal := X (ix3 b n ⟨a.val, by omega⟩)

/-- A coordinate of a box's centre: the last column of its placement. -/
def centre (b : Fin 2) (n : Fin 20) (a : Fin 3) : EReal := X (ix3 b n ⟨6 + 4 * a.val, by omega⟩)

/-- How far a box's centre lies from a voxel, along one axis. -/
def gap (b : Fin 2) (n : Fin 20) (v : Voxel) (a : Fin 3) : EReal := centre X b n a - coord (v a).val

/-- The unit of distance of a box along one axis: half its length, kept off zero. -/
def unit (b : Fin 2) (n : Fin 20) (a : Fin 3) : EReal := len X b n a * half + Ideal.ofBits .f32 0x3727C5AC#32

/-- A voxel lies within a threshold of a box, along every axis. -/
def Within (thr : EReal) (b : Fin 2) (n : Fin 20) (v : Voxel) : Prop :=
  ∀ a, Ideal.div (max (gap X b n v a) (-(gap X b n v a))) (unit X b n a) < thr

open Classical in
/-- A box's mark at a voxel: its score within the threshold, zero elsewhere. -/
def cover (thr : EReal) (b : Fin 2) (v : Voxel) (n : ℕ) : EReal :=
  if Within X thr b (Fin.ofNat 20 n) v then S (ix2 b (Fin.ofNat 20 n)) else 0

/-- The logarithm of a length of a box, in units of two, bounded from below. -/
def loglen (b : Fin 2) (n : Fin 20) (a : Fin 3) : EReal :=
  max (Ideal.log (Ideal.div (len X b n a) two)) (Ideal.ofBits .f32 0xC9742400#32)

/-- The six offsets of a box at a voxel: three of the centre, three of the lengths. -/
def delta (b : Fin 2) (v : Voxel) (j : Fin 6) (n : ℕ) : EReal :=
  if h : j.val < 3 then Ideal.div (gap X b (Fin.ofNat 20 n) v ⟨j.val, h⟩) two
  else loglen X b (Fin.ofNat 20 n) ⟨j.val - 3, by omega⟩

/-- One where a box covers the voxel. -/
def pos (b : Fin 2) (v : Voxel) : EReal := top (cover X S half b v) 20

/-- One where no box comes near the voxel. -/
def far (b : Fin 2) (v : Voxel) : EReal := 1 - top (cover X S nigh b v) 20

/-- The offset the voxel should predict. -/
def target (b : Fin 2) (v : Voxel) (j : Fin 6) : EReal := acc (cover X S half b v) (delta X b v j) 20

/-- The features with a border of zeros: the coordinates run from 0 to 33. -/
def padded (b : Fin 2) (c : Fin 32) (i j k : ℕ) : EReal :=
  if h : (1 ≤ i ∧ i ≤ 32) ∧ (1 ≤ j ∧ j ≤ 32) ∧ (1 ≤ k ∧ k ≤ 32) then
    f (ix5 b c ⟨k - 1, by omega⟩ ⟨j - 1, by omega⟩ ⟨i - 1, by omega⟩) else 0

/-- One tap of the convolution: its products, summed over the input channels. -/
def tap (b : Fin 2) (o : Fin 7) (v : Voxel) (i j k : Fin 3) : EReal :=
  ∑ c : Fin 32, w (ix5 o c i j k) * padded f b c ((v 0).val + i.val) ((v 1).val + j.val) ((v 2).val + k.val)

/-- The convolution with its bias. -/
def pred (b : Fin 2) (o : Fin 7) (v : Voxel) : EReal :=
  (∑ i : Fin 3, ∑ j : Fin 3, ∑ k : Fin 3, tap f w b o v i j k) + β (ix1 o)

/-- The probability the voxel holds an object. -/
def prob (b : Fin 2) (v : Voxel) : EReal := Ideal.logistic (pred f w β b 0 v)

/-- A sum over the voxels of one image. -/
def grid (g : Voxel → EReal) : EReal := ∑ x : Fin 32, ∑ y : Fin 32, ∑ z : Fin 32, g ![x, y, z]

/-- A sum over the voxels of both images. -/
def sum (g : Fin 2 → Voxel → EReal) : EReal := ∑ b : Fin 2, grid (g b)

/-- The small number that keeps a count off zero and a logarithm off its pole. -/
abbrev eps : EReal := Ideal.ofBits .f32 0x358637BD#32

/-- The loss over covered voxels. -/
def clsPos (b : Fin 2) (v : Voxel) : EReal := -(pos X S b v) * Ideal.log (prob f w β b v + eps)

/-- The loss over voxels no box comes near. -/
def clsNeg (b : Fin 2) (v : Voxel) : EReal := -(far X S b v) * Ideal.log (1 - prob f w β b v + eps)

/-- The smooth error of one offset. -/
def err (b : Fin 2) (v : Voxel) (j : Fin 6) : EReal :=
  smooth (pred f w β b ⟨j.val + 1, by omega⟩ v - target X S b v j)

/-- The offset loss. -/
def reg (b : Fin 2) (v : Voxel) : EReal := ∑ j : Fin 6, err X S f w β b v j * pos X S b v

/-- The loss. -/
def value : EReal :=
  Ideal.div (sum (clsPos X S f w β)) (sum (pos X S) + eps)
    + Ideal.div (sum (clsNeg X S f w β)) (sum (far X S) + eps)
    + Ideal.div (sum (reg X S f w β)) (sum (pos X S) + eps)

/-- Every score is zero or one. -/
def Flagged : Prop := ∀ b n, S (ix2 b n) = 0 ∨ S (ix2 b n) = 1

variable {S}

/-- With scores zero or one, a box's mark is zero or one. -/
theorem cover_flag (h : Flagged S) (thr : EReal) (b : Fin 2) (v : Voxel) (n : ℕ) :
    cover X S thr b v n = 0 ∨ cover X S thr b v n = 1 := by
  unfold cover
  split
  · exact h _ _
  · exact .inl rfl

end Cert.Spec
-- ==== Proof.Conv.lean ====
/- The kernel's convolution read at a voxel. -/
module

public import proofs.«01_k».proof.Proof.Body
public import proofs.«01_k».proof.Proof.Spec

@[expose] public section

set_option maxRecDepth 16384

noncomputable section

namespace Cert.KernelIdeal.Conv

open Cert.KernelIdeal Cert.KernelIdeal.Gen Idealize.ShloMosaic

/-- The low five bits of a number are its remainder by 32. -/
theorem low_bits (g : ℕ) : IntOp.andi (BitVec.ofNat 32 g) 31#32 = BitVec.ofNat 32 (g % 32) := by
  apply BitVec.eq_of_toNat_eq
  show (BitVec.ofNat 32 g &&& 31#32).toNat = _
  rw [BitVec.toNat_and, BitVec.toNat_ofNat, BitVec.toNat_ofNat, BitVec.toNat_ofNat]
  rw [show 31 % 2 ^ 32 = 2 ^ 5 - 1 by norm_num, Nat.and_two_pow_sub_one_eq_mod]
  omega

/-- A shift to the right of a small number is a quotient. -/
theorem shift_bits (g s : ℕ) (hg : g < 2 ^ 31) (hs : s < 32) :
    IntOp.shrsi ArithUnit.vector (BitVec.ofNat 32 g) (BitVec.ofNat 32 s) = BitVec.ofNat 32 (g / 2 ^ s) := by
  have h : (BitVec.ofNat 32 s).toNat = s := by rw [BitVec.toNat_ofNat]; omega
  have hm : (BitVec.ofNat 32 g).msb = false := by
    rw [BitVec.msb_eq_false_iff_two_mul_lt, BitVec.toNat_ofNat]; omega
  unfold IntOp.shrsi
  rw [if_pos (by rw [h]; exact hs), show (BitVec.ofNat 32 g).sshiftRight' (BitVec.ofNat 32 s) = (BitVec.ofNat 32 g).sshiftRight (BitVec.ofNat 32 s).toNat from rfl,
    BitVec.sshiftRight_eq_of_msb_false hm, h]
  apply BitVec.eq_of_toNat_eq
  rw [BitVec.toNat_ushiftRight, Nat.shiftRight_eq_div_pow, BitVec.toNat_ofNat, BitVec.toNat_ofNat,
    Nat.mod_eq_of_lt (by omega : g < 2 ^ 32), Nat.mod_eq_of_lt (lt_of_le_of_lt (Nat.div_le_self _ _) (by omega))]

/-- Whether a coordinate has a neighbour below, as a number. -/
theorem low_mask (a : ℕ) (ha : a < 32) :
    FloatOps.sitofp (F := Ideal) FTy.f32 (BitVec.setWidth 32 (IntOp.cmpi CmpIPredicate.sge (BitVec.ofNat 32 a) 1#32))
      = if 1 ≤ a then 1 else 0 := by
  have h : ∀ a : Fin 32, BitVec.setWidth 32 (IntOp.cmpi CmpIPredicate.sge (BitVec.ofNat 32 a.val) 1#32)
      = if 1 ≤ a.val then 1#32 else 0#32 := by decide
  rw [h ⟨a, ha⟩]
  show (((ite _ _ _ : BitVec 32).toInt : ℝ) : EReal) = _
  split <;> simp

/-- Whether a coordinate has a neighbour above, as a number. -/
theorem high_mask (a : ℕ) (ha : a < 32) :
    FloatOps.sitofp (F := Ideal) FTy.f32 (BitVec.setWidth 32 (IntOp.cmpi CmpIPredicate.sle (BitVec.ofNat 32 a) 30#32))
      = if a ≤ 30 then 1 else 0 := by
  have h : ∀ a : Fin 32, BitVec.setWidth 32 (IntOp.cmpi CmpIPredicate.sle (BitVec.ofNat 32 a.val) 30#32)
      = if a.val ≤ 30 then 1#32 else 0#32 := by decide
  rw [h ⟨a, ha⟩]
  show (((ite _ _ _ : BitVec 32).toInt : ℝ) : EReal) = _
  split <;> simp

/-- The y coordinate of a flat position. -/
theorem field_y (o : Fin 8) (g : Fin 32768) : k0_pay4 (ix2 o g) = BitVec.ofNat 32 (g.val / 32 % 32) := by
  pointwise [k0_pay4]
  rw [shift_bits _ 5 (by omega) (by omega), low_bits]
  norm_num

/-- The x coordinate of a flat position. -/
theorem field_x (o : Fin 8) (g : Fin 32768) : k0_pay5 (ix2 o g) = BitVec.ofNat 32 (g.val % 32) := by
  pointwise [k0_pay5]
  rw [low_bits]

theorem mask6 (o : Fin 8) (g : Fin 32768) : k0_pay6 (F := Ideal) (ix2 o g) = if 1 ≤ g.val / 32 % 32 then 1 else 0 := by
  pointwise [k0_pay6]
  rw [field_y, low_mask _ (by omega)]

theorem mask7 (o : Fin 8) (g : Fin 32768) : k0_pay7 (F := Ideal) (ix2 o g) = if g.val / 32 % 32 ≤ 30 then 1 else 0 := by
  pointwise [k0_pay7]
  rw [field_y, high_mask _ (by omega)]

theorem mask8 (o : Fin 8) (g : Fin 32768) : k0_pay8 (F := Ideal) (ix2 o g) = if 1 ≤ g.val % 32 then 1 else 0 := by
  pointwise [k0_pay8]
  rw [field_x, low_mask _ (by omega)]

theorem mask9 (o : Fin 8) (g : Fin 32768) : k0_pay9 (F := Ideal) (ix2 o g) = if g.val % 32 ≤ 30 then 1 else 0 := by
  pointwise [k0_pay9]
  rw [field_x, high_mask _ (by omega)]

/-- One channel of an image at a flat position that is shifted by one plane: zero outside the image. -/
def slot (f : Vec Ideal S1x32x32768 .f32) (c : Fin 32) (n : ℕ) : EReal :=
  if h : 1024 ≤ n ∧ n < 33792 then f (ix3 0 c ⟨n - 1024, by omega⟩) else 0

/-- The three shifted copies of the image, stacked, at an index. -/
theorem stack_apply (f : Vec Ideal S1x32x32768 .f32) (k : Fin 3) (c : Fin 32) (g : Fin 32768) :
    k0_pay14 (F := Ideal) f (ix2 ⟨c.val + 32 * k.val, by omega⟩ g) = slot f c (g.val + 1024 * k.val) := by
  pointwise [k0_pay14]
  unfold slot
  match k with
  | ⟨0, _⟩ =>
    rw [dif_pos (by simp)]
    by_cases h : g.val < 1024
    · rw [dif_pos h, dif_neg (by simp; omega)]
    · rw [dif_neg h, dif_pos (by simp; omega)]
      congr 2
  | ⟨1, _⟩ =>
    rw [dif_neg (by simp), dif_pos (by simp), dif_pos (by simp; omega)]
    congr 2 <;> apply Fin.ext <;> simp
  | ⟨2, _⟩ =>
    rw [dif_neg (by simp), dif_neg (by simp)]
    by_cases h : g.val < 31744
    · rw [dif_pos h, dif_pos (by simp; omega)]
      congr 2 <;> apply Fin.ext <;> simp <;> try omega
    · rw [dif_neg h, dif_neg (by simp; omega)]

/-- The product of one slab of weights with the stack, at a flat position. -/
def prod (t : Vec Ideal S1x8x96 .bf16) (f : Vec Ideal S1x32x32768 .f32) (o : Fin 8) (n : ℕ) : EReal :=
  ∑ k : Fin 3, ∑ c : Fin 32, t (ix3 0 o ⟨c.val + 32 * k.val, by omega⟩) * slot f c (n + 1024 * k.val)

theorem prod_apply (t : Vec Ideal S1x8x96 .bf16) (f : Vec Ideal S1x32x32768 .f32) (o : Fin 8) (g : Fin 32768) :
    ∑ x : Fin 96, t (ix3 0 o x) * k0_pay14 (F := Ideal) f (ix2 x g) = prod t f o g.val := by
  rw [← Equiv.sum_comp (finProdFinEquiv : Fin 3 × Fin 32 ≃ Fin 96), Fintype.sum_prod_type]
  refine Finset.sum_congr rfl fun k _ => Finset.sum_congr rfl fun c _ => ?_
  rw [← stack_apply]
  rfl

/-- One tap of the convolution in the plane: its product where the neighbour lies in the image, else zero. -/
def part (t : Vec Ideal S1x8x96 .bf16) (f : Vec Ideal S1x32x32768 .f32) (o : Fin 8) (g i j : ℕ) : EReal :=
  if (1 ≤ g / 32 % 32 + j ∧ g / 32 % 32 + j ≤ 32) ∧ (1 ≤ g % 32 + i ∧ g % 32 + i ≤ 32) then
    prod t f o (g + 32 * j + i - 33) else 0

theorem both_masks (A B : Prop) [Decidable A] [Decidable B] :
    (if A then (1 : EReal) else 0) * (if B then 1 else 0) = if A ∧ B then 1 else 0 := by
  by_cases hA : A <;> by_cases hB : B <;> simp [hA, hB]

/-- A tap that looks back: the product moved up by `s` places, masked. -/
theorem part_back (t : Vec Ideal S1x8x96 .bf16) (f : Vec Ideal S1x32x32768 .f32) (o : Fin 8) (g : Fin 32768) (s i j : ℕ)
    (A : Prop) [Decidable A]
    (hA : A ↔ ((1 ≤ g.val / 32 % 32 + j ∧ g.val / 32 % 32 + j ≤ 32) ∧ (1 ≤ g.val % 32 + i ∧ g.val % 32 + i ≤ 32)))
    (hs : A → s ≤ g.val) (hn : A → g.val + 32 * j + i - 33 = g.val - s) :
    (if h : g.val < s then 0 else ∑ x : Fin 96, t (ix3 0 o x) * k0_pay14 (F := Ideal) f (ix2 x ⟨g.val - s, by omega⟩))
      * (if A then 1 else 0) = part t f o g.val i j := by
  unfold part
  by_cases h : A
  · rw [dif_neg (not_lt.mpr (hs h)), if_pos h, if_pos (hA.mp h), mul_one, prod_apply, hn h]
  · rw [if_neg h, if_neg (fun k => h (hA.mpr k)), mul_zero]

/-- A tap that looks ahead: the product moved down by `s` places, masked. -/
theorem part_ahead (t : Vec Ideal S1x8x96 .bf16) (f : Vec Ideal S1x32x32768 .f32) (o : Fin 8) (g : Fin 32768) (s e i j : ℕ)
    (he : s + e = 32768) (A : Prop) [Decidable A]
    (hA : A ↔ ((1 ≤ g.val / 32 % 32 + j ∧ g.val / 32 % 32 + j ≤ 32) ∧ (1 ≤ g.val % 32 + i ∧ g.val % 32 + i ≤ 32)))
    (hs : A → g.val < e) (hn : A → g.val + 32 * j + i - 33 = s + g.val) :
    (if h : g.val < e then ∑ x : Fin 96, t (ix3 0 o x) * k0_pay14 (F := Ideal) f (ix2 x ⟨s + g.val, by omega⟩) else 0)
      * (if A then 1 else 0) = part t f o g.val i j := by
  unfold part
  by_cases h : A
  · rw [dif_pos (hs h), if_pos h, if_pos (hA.mp h), mul_one, prod_apply, hn h]
  · rw [if_neg h, if_neg (fun k => h (hA.mpr k)), mul_zero]

/-- The convolution at a flat position: nine taps in the plane. -/
theorem conv_apply (t : Fin 9 → Vec Ideal S1x8x96 .bf16) (f : Vec Ideal S1x32x32768 .f32) (o : Fin 8) (g : Fin 32768) :
    Body.conv t f (ix2 o g) = part (t 0) f o g.val 0 0 + part (t 1) f o g.val 1 0 + part (t 2) f o g.val 2 0 + part (t 3) f o g.val 0 1 + part (t 4) f o g.val 1 1 + part (t 5) f o g.val 2 1 + part (t 6) f o g.val 0 2 + part (t 7) f o g.val 1 2 + part (t 8) f o g.val 2 2 := by
  unfold Body.conv
  pointwise [k0_pay16, k0_pay15, k0_pay10, k0_pay11, k0_pay12, k0_pay13]
  simp only [mask6, mask7, mask8, mask9, both_masks]
  have hg := g.isLt
  have hy : g.val / 32 % 32 < 32 := Nat.mod_lt _ (by norm_num)
  have hx : g.val % 32 < 32 := Nat.mod_lt _ (by norm_num)
  congr 8
  · exact part_back _ _ _ _ 33 _ _ _ (by omega) (by omega) (by omega)
  · exact part_back _ _ _ _ 32 _ _ _ (by omega) (by omega) (by omega)
  · exact part_back _ _ _ _ 31 _ _ _ (by omega) (by omega) (by omega)
  · exact part_back _ _ _ _ 1 _ _ _ (by omega) (by omega) (by omega)
  · rw [prod_apply, part, if_pos (by omega), show g.val + 32 * 1 + 1 - 33 = g.val by omega]
  · exact part_ahead _ _ _ _ 1 _ _ _ rfl _ (by omega) (by omega) (by omega)
  · exact part_ahead _ _ _ _ 31 _ _ _ rfl _ (by omega) (by omega) (by omega)
  · exact part_ahead _ _ _ _ 32 _ _ _ rfl _ (by omega) (by omega) (by omega)
  · exact part_ahead _ _ _ _ 33 _ _ _ rfl _ (by omega) (by omega) (by omega)

/-- The flat position of a voxel. -/
def place (v : Spec.Voxel) : Fin 32768 := ⟨(v 2).val * 1024 + (v 1).val * 32 + (v 0).val, by omega⟩

/-- One tap in the plane at a voxel is the sum of the three taps along z. -/
theorem part_tap (t : Vec Ideal S1x8x96 .bf16) (f : Vec Ideal S1x32x32768 .f32) (u : Spec.Feats) (w : Spec.Weights)
    (b : Fin 2) (o : Fin 7) (v : Spec.Voxel) (i j : Fin 3)
    (ht : ∀ (c : Fin 32) (k : Fin 3), t (ix3 0 ⟨o.val, by omega⟩ ⟨c.val + 32 * k.val, by omega⟩) = w (ix5 o c i j k))
    (hf : ∀ (c : Fin 32) (v : Spec.Voxel), f (ix3 0 c (place v)) = u (ix5 b c (v 2) (v 1) (v 0))) :
    part t f ⟨o.val, by omega⟩ (place v).val i.val j.val = ∑ k : Fin 3, Spec.tap u w b o v i j k := by
  have hx := (v 0).isLt
  have hy := (v 1).isLt
  have hz := (v 2).isLt
  have hi := i.isLt
  have hj := j.isLt
  have hyg : (place v).val / 32 % 32 = (v 1).val := by simp only [place]; omega
  have hxg : (place v).val % 32 = (v 0).val := by simp only [place]; omega
  unfold part
  rw [hyg, hxg]
  split
  · rename_i h
    unfold prod
    refine Finset.sum_congr rfl fun k _ => ?_
    unfold Spec.tap
    refine Finset.sum_congr rfl fun c _ => ?_
    rw [ht]
    congr 1
    have hk := k.isLt
    unfold slot Spec.padded
    by_cases hin : 1 ≤ (v 2).val + k.val ∧ (v 2).val + k.val ≤ 32
    · rw [dif_pos (by simp only [place]; omega), dif_pos (by omega)]
      refine Eq.trans ?_ (hf c ![⟨(v 0).val + i.val - 1, by omega⟩, ⟨(v 1).val + j.val - 1, by omega⟩,
        ⟨(v 2).val + k.val - 1, by omega⟩])
      congr 2
      apply Fin.ext
      simp only [place, Matrix.cons_val]
      omega
    · rw [dif_neg (by simp only [place]; omega), dif_neg (by omega)]
  · rename_i h
    refine (Finset.sum_eq_zero fun k _ => ?_).symm
    refine Finset.sum_eq_zero fun c _ => ?_
    unfold Spec.padded
    rw [dif_neg (by omega), mul_zero]

/-- Nine terms added row by row are their sum over both indices. -/
theorem square_sum (T : Fin 3 → Fin 3 → EReal) :
    T 0 0 + T 1 0 + T 2 0 + T 0 1 + T 1 1 + T 2 1 + T 0 2 + T 1 2 + T 2 2 = ∑ i : Fin 3, ∑ j : Fin 3, T i j := by
  simp only [Fin.sum_univ_three]
  ac_rfl

/-- The kernel's convolution at a voxel is the sum of all 27 taps. -/
theorem conv_tap (t : Fin 9 → Vec Ideal S1x8x96 .bf16) (f : Vec Ideal S1x32x32768 .f32) (u : Spec.Feats) (w : Spec.Weights)
    (b : Fin 2) (o : Fin 7) (v : Spec.Voxel)
    (ht : ∀ (i j : Fin 3) (c : Fin 32) (k : Fin 3), t ⟨3 * j.val + i.val, by omega⟩ (ix3 0 ⟨o.val, by omega⟩ ⟨c.val + 32 * k.val, by omega⟩) = w (ix5 o c i j k))
    (hf : ∀ (c : Fin 32) (v : Spec.Voxel), f (ix3 0 c (place v)) = u (ix5 b c (v 2) (v 1) (v 0))) :
    Body.conv t f (ix2 ⟨o.val, by omega⟩ (place v))
      = ∑ i : Fin 3, ∑ j : Fin 3, ∑ k : Fin 3, Spec.tap u w b o v i j k := by
  have key : ∀ i j : Fin 3, part (t ⟨3 * j.val + i.val, by omega⟩) f ⟨o.val, by omega⟩ (place v).val i.val j.val
      = ∑ k : Fin 3, Spec.tap u w b o v i j k := fun i j => part_tap _ f u w b o v i j (ht i j) hf
  rw [conv_apply]
  refine (congrArg₂ (· + ·) (congrArg₂ (· + ·) (congrArg₂ (· + ·) (congrArg₂ (· + ·) (congrArg₂ (· + ·) (congrArg₂ (· + ·)
    (congrArg₂ (· + ·) (congrArg₂ (· + ·) (key 0 0) (key 1 0)) (key 2 0)) (key 0 1)) (key 1 1)) (key 2 1)) (key 0 2))
    (key 1 2)) (key 2 2)).trans (square_sum fun i j => ∑ k : Fin 3, Spec.tap u w b o v i j k)

end Cert.KernelIdeal.Conv
-- ==== Proof.Voxel.lean ====
/- What the kernel's arrays hold at a voxel: a box's mark, the running arrays after some boxes, one channel of the
   convolution, and the sum of a plane as a sum over voxels. -/
module

public import proofs.«01_k».proof.Proof.Conv

@[expose] public section

set_option maxRecDepth 65536

noncomputable section

namespace Cert.KernelIdeal.Voxel

open Cert.KernelIdeal Cert.KernelIdeal.Gen Cert.KernelIdeal.Body Cert.KernelIdeal.Conv Cert.Flags Idealize.ShloMosaic

/-- The row of a voxel in a plane. -/
def row (v : Spec.Voxel) : Fin 256 := ⟨(v 2).val * 8 + (v 1).val / 4, by omega⟩

/-- The lane of a voxel in a plane. -/
def lane (v : Spec.Voxel) : Fin 128 := ⟨(v 1).val % 4 * 32 + (v 0).val, by omega⟩

/-- The x coordinate of a voxel, as the kernel reads it off the lane. -/
theorem x_at (v : Spec.Voxel) : k0_pay1 (F := Ideal) (ix2 (row v) (lane v)) = Spec.coord (v 0).val := by
  have h := (v 0).isLt
  pointwise [k0_pay1]
  rw [low_bits, show (lane v).val % 32 = (v 0).val by simp only [lane]; omega]
  rfl

/-- The y coordinate of a voxel, as the kernel reads it off the row and the lane. -/
theorem y_at (v : Spec.Voxel) : k0_pay2 (F := Ideal) (ix2 (row v) (lane v)) = Spec.coord (v 1).val := by
  have h := (v 0).isLt
  have h' := (v 1).isLt
  pointwise [k0_pay2]
  rw [shift_bits _ 5 (by simp only [lane]; omega) (by norm_num)]
  rw [show IntOp.addi (IntOp.muli (BitVec.ofNat 32 (row v).val) 4#32) (BitVec.ofNat 32 ((lane v).val / 2 ^ 5))
      = BitVec.ofNat 32 ((row v).val * 4 + (lane v).val / 2 ^ 5) by rw [BitVec.ofNat_add, BitVec.ofNat_mul]; rfl]
  rw [low_bits, show ((row v).val * 4 + (lane v).val / 2 ^ 5) % 32 = (v 1).val by simp only [row, lane]; omega]
  rfl

/-- The z coordinate of a voxel, as the kernel reads it off the row. -/
theorem z_at (v : Spec.Voxel) : k0_pay3 (F := Ideal) (ix2 (row v) (lane v)) = Spec.coord (v 2).val := by
  have h := (v 1).isLt
  have h' := (v 2).isLt
  pointwise [k0_pay3]
  rw [shift_bits _ 3 (by simp only [row]; omega) (by norm_num),
    show (row v).val / 2 ^ 3 = (v 2).val by simp only [row]; omega]
  rfl

/-- A sum over a product of two extents, as a double sum. -/
theorem sum_split (m n : ℕ) (g : Fin (m * n) → EReal) :
    ∑ r, g r = ∑ a : Fin m, ∑ c : Fin n, g ⟨a.val * n + c.val, by
      have := a.isLt
      have := c.isLt
      nlinarith⟩ := by
  rw [← Equiv.sum_comp (finProdFinEquiv : Fin m × Fin n ≃ Fin (m * n)), Fintype.sum_prod_type]
  refine Finset.sum_congr rfl fun z _ => Finset.sum_congr rfl fun a _ => congrArg g (Fin.ext ?_)
  show a.val + n * z.val = z.val * n + a.val
  ring

/-- A triple sum read from the innermost index outwards. -/
theorem sum_turn (g : Fin 32 → Fin 32 → Fin 32 → EReal) :
    ∑ x, ∑ y, ∑ z, g x y z = ∑ z, ∑ y, ∑ x, g x y z := by
  rw [Finset.sum_comm]
  refine (Finset.sum_congr rfl fun y _ => Finset.sum_comm).trans ?_
  rw [Finset.sum_comm]

/-- The sum of a plane is the sum over the voxels. -/
theorem total_at (u : Plane Ideal) : total (F := Ideal) u = Spec.grid fun v => u (ix2 (row v) (lane v)) := by
  unfold total
  pointwise []
  refine (sum_split 32 8 fun r => ∑ l, u (ix2 r l)).trans ?_
  refine Eq.trans ?_ (sum_turn fun x y z => u (ix2 (row ![x, y, z]) (lane ![x, y, z]))).symm
  refine Finset.sum_congr rfl fun z _ => ?_
  refine Eq.trans ?_ (sum_split 8 4 fun y => ∑ x, u (ix2 (row ![x, y, z]) (lane ![x, y, z]))).symm
  refine Finset.sum_congr rfl fun a _ => ?_
  refine (sum_split 4 32 fun l => u (ix2 ⟨z.val * 8 + a.val, by omega⟩ l)).trans ?_
  refine Finset.sum_congr rfl fun c _ => Finset.sum_congr rfl fun x _ => ?_
  refine congrArg₂ (fun r l => u (ix2 r l)) (Fin.ext ?_) (Fin.ext ?_)
  · show z.val * 8 + a.val = z.val * 8 + (a.val * 4 + c.val) / 4
    omega
  · show c.val * 32 + x.val = (a.val * 4 + c.val) % 4 * 32 + x.val
    omega

/-- One channel of the convolution at a voxel. -/
theorem chan_at (t : Fin 9 → Vec Ideal S1x8x96 .bf16) (f : Vec Ideal S1x32x32768 .f32) (o : Fin 7)
    (h : S8x256x128.Slices ![o.val, 0, 0] S1x256x128) (bias : EReal) (v : Spec.Voxel) :
    chan (F := Ideal) t f o.val h bias (ix2 (row v) (lane v)) = Body.conv t f (ix2 ⟨o.val, by omega⟩ (place v)) + bias := by
  unfold chan
  pointwise [all]
  congr 3
  apply Fin.ext
  simp only [place, row, lane]
  omega

/-- The boxes of one image as the kernel's table holds them: centres, reciprocal units, logarithms of lengths, score. -/
def Boxed (P : ℕ → Fin 10 → EReal) (X : Spec.Boxes) (S : Spec.Scores) (b : Fin 2) : Prop :=
  ∀ n : Fin 20, (∀ a : Fin 3, P n.val ⟨a.val, by omega⟩ = Spec.centre X b n a
    ∧ P n.val ⟨3 + a.val, by omega⟩ = Ideal.div 1 (Spec.unit X b n a)
    ∧ P n.val ⟨6 + a.val, by omega⟩ = Spec.loglen X b n a) ∧ P n.val 9 = S (ix2 b n)

variable {P : ℕ → Fin 10 → EReal} {X : Spec.Boxes} {S : Spec.Scores} {b : Fin 2}

/-- The distance of a voxel from a box lies below a positive threshold exactly when the voxel lies within it along every
    axis. -/
theorem dist_lt (h : Boxed P X S b) (n : Fin 20) (v : Spec.Voxel) (c : EReal) (hc : 0 < c) :
    Body.dist (F := Ideal) (P n.val) (ix2 (row v) (lane v)) < c ↔ Spec.Within X c b n v := by
  pointwise [Body.dist, all]
  rw [x_at, y_at, z_at]
  have h0 := h n
  rw [max_lt_iff, max_lt_iff]
  rw [show P n.val 0 = Spec.centre X b n 0 from (h0.1 0).1, show P n.val 1 = Spec.centre X b n 1 from (h0.1 1).1,
    show P n.val 2 = Spec.centre X b n 2 from (h0.1 2).1,
    show P n.val 3 = Ideal.div 1 (Spec.unit X b n 0) from (h0.1 0).2.1,
    show P n.val 4 = Ideal.div 1 (Spec.unit X b n 1) from (h0.1 1).2.1,
    show P n.val 5 = Ideal.div 1 (Spec.unit X b n 2) from (h0.1 2).2.1]
  have hr : ∀ x d : EReal, FloatOps.absf (F := Ideal) (φ := .f32) x * Ideal.div 1 d < c ↔ Ideal.div (max x (-x)) d < c :=
    fun x d => recip_lt (abs_nonneg x) hc
  rw [hr, hr, hr]
  unfold Spec.Within
  constructor
  · rintro ⟨⟨a0, a1⟩, a2⟩ a
    match a with
    | ⟨0, _⟩ => exact a0
    | ⟨1, _⟩ => exact a1
    | ⟨2, _⟩ => exact a2
  · intro a
    exact ⟨⟨a 0, a 1⟩, a 2⟩

/-- A box's mark at a voxel. -/
theorem mark_at (h : Boxed P X S b) (n : ℕ) (hn : n < 20) (v : Spec.Voxel) (thr : BitVec 32)
    (ht : 0 < Ideal.ofBits .f32 thr) :
    mark (F := Ideal) thr (P n) (ix2 (row v) (lane v)) = Spec.cover X S (Ideal.ofBits .f32 thr) b v n := by
  have hd := dist_lt h ⟨n, hn⟩ v _ ht
  have hN : Fin.ofNat 20 n = ⟨n, hn⟩ := Fin.ext (Nat.mod_eq_of_lt hn)
  pointwise [mark, all]
  unfold Spec.cover
  rw [hN, ← (h ⟨n, hn⟩).2]
  simp only [← hd]

/-- The running arrays at a voxel, after the first boxes. -/
theorem after_at (h : Boxed P X S b) (v : Spec.Voxel) (n : ℕ) (hn : n ≤ 20) :
    (after (F := Ideal) P n).pos (ix2 (row v) (lane v)) = top (Spec.cover X S half b v) n
    ∧ (after (F := Ideal) P n).near (ix2 (row v) (lane v)) = top (Spec.cover X S nigh b v) n
    ∧ (after (F := Ideal) P n).g0 (ix2 (row v) (lane v)) = acc (Spec.cover X S half b v) (Spec.delta X b v 0) n
    ∧ (after (F := Ideal) P n).g1 (ix2 (row v) (lane v)) = acc (Spec.cover X S half b v) (Spec.delta X b v 1) n
    ∧ (after (F := Ideal) P n).g2 (ix2 (row v) (lane v)) = acc (Spec.cover X S half b v) (Spec.delta X b v 2) n
    ∧ (after (F := Ideal) P n).g3 (ix2 (row v) (lane v)) = acc (Spec.cover X S half b v) (Spec.delta X b v 3) n
    ∧ (after (F := Ideal) P n).g4 (ix2 (row v) (lane v)) = acc (Spec.cover X S half b v) (Spec.delta X b v 4) n
    ∧ (after (F := Ideal) P n).g5 (ix2 (row v) (lane v)) = acc (Spec.cover X S half b v) (Spec.delta X b v 5) n := by
  induction n with
  | zero =>
    have z : all (F := Ideal) (Scalar.ofBits .f32 0x00000000#32) (ix2 (row v) (lane v)) = 0 := by pointwise [all]
    exact ⟨z, z, z, z, z, z, z, z⟩
  | succ n ih =>
    obtain ⟨ip, ir, i0, i1, i2, i3, i4, i5⟩ := ih (by omega)
    have mp := mark_at h n (by omega) v 0x3F000000#32 half_pos
    have mr := mark_at h n (by omega) v 0x3F4CCCCD#32 nigh_pos
    have hN : Fin.ofNat 20 n = ⟨n, by omega⟩ := Fin.ext (Nat.mod_eq_of_lt (by omega))
    have h0 := h ⟨n, by omega⟩
    have ew : weight (F := Ideal) (P n) (after P n) (ix2 (row v) (lane v))
        = Spec.cover X S half b v n * (1 - top (Spec.cover X S half b v) n) := by
      rw [← ip, ← mp]
      pointwise [weight, all]
    have ec : ∀ a : Fin 3, Spec.delta X b v ⟨a.val, by omega⟩ n = Spec.gap X b ⟨n, by omega⟩ v a * half := fun a => by
      unfold Spec.delta
      rw [dif_pos a.isLt, div_two, hN]
    have el : ∀ a : Fin 3, Spec.delta X b v ⟨3 + a.val, by omega⟩ n = Spec.loglen X b ⟨n, by omega⟩ a := fun a => by
      unfold Spec.delta
      rw [dif_neg (by simp), hN]
      congr 1
      apply Fin.ext
      simp
    refine ⟨?_, ?_, ?_, ?_, ?_, ?_, ?_, ?_⟩
    · rw [top_succ, ← ip, ← mp]
      rfl
    · rw [top_succ, ← ir, ← mr]
      rfl
    · rw [acc_succ, ← i0, ← ew, show Spec.delta X b v 0 n = _ from ec 0, Spec.gap, ← (h0.1 0).1, ← x_at]
      rfl
    · rw [acc_succ, ← i1, ← ew, show Spec.delta X b v 1 n = _ from ec 1, Spec.gap, ← (h0.1 1).1, ← y_at]
      rfl
    · rw [acc_succ, ← i2, ← ew, show Spec.delta X b v 2 n = _ from ec 2, Spec.gap, ← (h0.1 2).1, ← z_at]
      rfl
    · rw [acc_succ, ← i3, ← ew, show Spec.delta X b v 3 n = _ from el 0, ← (h0.1 0).2.2]
      rfl
    · rw [acc_succ, ← i4, ← ew, show Spec.delta X b v 4 n = _ from el 1, ← (h0.1 1).2.2]
      rfl
    · rw [acc_succ, ← i5, ← ew, show Spec.delta X b v 5 n = _ from el 2, ← (h0.1 2).2.2]
      rfl

end Cert.KernelIdeal.Voxel
-- ==== Proof.Total.lean ====
/- The kernel's value: with its table, slabs and images read off the arguments, the value its body stores is the loss. -/
module

public import proofs.«01_k».proof.Proof.Voxel

@[expose] public section

set_option maxRecDepth 65536

noncomputable section

namespace Cert.KernelIdeal.Total

open Cert.KernelIdeal Cert.KernelIdeal.Gen Cert.KernelIdeal.Body Cert.KernelIdeal.Conv Cert.KernelIdeal.Voxel Cert.Flags
  Idealize.ShloMosaic

variable {X : Spec.Boxes} {S : Spec.Scores} {u : Spec.Feats} {w : Spec.Weights} {β : Spec.Bias}

/-- The slabs of weights as the kernel holds them. -/
def Slabs (t : Fin 9 → Vec Ideal S1x8x96 .bf16) (w : Spec.Weights) : Prop :=
  ∀ (o : Fin 7) (i j : Fin 3) (c : Fin 32) (k : Fin 3),
    t ⟨3 * j.val + i.val, by omega⟩ (ix3 0 ⟨o.val, by omega⟩ ⟨c.val + 32 * k.val, by omega⟩) = w (ix5 o c i j k)

/-- One image as the kernel holds it, flat. -/
def Image (f : Vec Ideal S1x32x32768 .f32) (u : Spec.Feats) (b : Fin 2) : Prop :=
  ∀ (c : Fin 32) (v : Spec.Voxel), f (ix3 0 c (place v)) = u (ix5 b c (v 2) (v 1) (v 0))

/-- The biases as the kernel holds them. -/
def Biased (γ : ℕ → EReal) (β : Spec.Bias) : Prop := ∀ o : Fin 7, γ o.val = β (ix1 o)

variable {t : Fin 9 → Vec Ideal S1x8x96 .bf16} {f : Vec Ideal S1x32x32768 .f32} {γ : ℕ → EReal}
  {P : ℕ → Fin 10 → EReal} {b : Fin 2}

/-- One biased channel of the convolution at a voxel is the prediction. -/
theorem pred_at (ht : Slabs t w) (hf : Image f u b) (hγ : Biased γ β) (o : Fin 7)
    (h : S8x256x128.Slices ![o.val, 0, 0] S1x256x128) (v : Spec.Voxel) :
    chan (F := Ideal) t f o.val h (γ o.val) (ix2 (row v) (lane v)) = Spec.pred u w β b o v := by
  rw [chan_at, conv_tap t f u w b o v (ht o) hf, hγ]
  rfl

/-- The probability at a voxel. -/
theorem prob_at (ht : Slabs t w) (hf : Image f u b) (hγ : Biased γ β) (v : Spec.Voxel) :
    Body.prob (F := Ideal) t f γ (ix2 (row v) (lane v)) = Spec.prob u w β b v :=
  congrArg Ideal.logistic (pred_at ht hf hγ 0 slices_S8x256x128_o0_0_0_S1x256x128 v)

/-- The smooth error of a plane at an index. -/
theorem smooth_at (d : Plane Ideal) (r : Fin 256) (l : Fin 128) :
    Body.smooth (F := Ideal) d (ix2 r l) = Flags.smooth (d (ix2 r l)) := by
  pointwise [Body.smooth, all]
  rfl

/-- The loss over covered voxels at a voxel. -/
theorem clsPos_at (hP : Boxed P X S b) (ht : Slabs t w) (hf : Image f u b) (hγ : Biased γ β) (v : Spec.Voxel) :
    Body.clsPos (F := Ideal) (Body.prob t f γ) (after P 20) (ix2 (row v) (lane v)) = Spec.clsPos X S u w β b v := by
  pointwise [Body.clsPos, all]
  rw [(after_at hP v 20 le_rfl).1, prob_at ht hf hγ, zero_sub]
  rfl

/-- The voxels no box comes near. -/
theorem far_at (hP : Boxed P X S b) (v : Spec.Voxel) :
    Body.far (F := Ideal) (after P 20) (ix2 (row v) (lane v)) = Spec.far X S b v := by
  pointwise [Body.far, all]
  rw [(after_at hP v 20 le_rfl).2.1]
  rfl

/-- The loss over voxels no box comes near, at a voxel. -/
theorem clsNeg_at (hP : Boxed P X S b) (ht : Slabs t w) (hf : Image f u b) (hγ : Biased γ β) (v : Spec.Voxel) :
    Body.clsNeg (F := Ideal) (Body.prob t f γ) (after P 20) (ix2 (row v) (lane v)) = Spec.clsNeg X S u w β b v := by
  pointwise [Body.clsNeg, all]
  rw [far_at hP, prob_at ht hf hγ, zero_sub]
  rfl

/-- The offset loss at a voxel. -/
theorem reg_at (hS : Spec.Flagged S) (hP : Boxed P X S b) (ht : Slabs t w) (hf : Image f u b) (hγ : Biased γ β)
    (v : Spec.Voxel) :
    Body.reg (F := Ideal) t f γ (after P 20) (ix2 (row v) (lane v)) = Spec.reg X S u w β b v := by
  obtain ⟨ap, -, a0, a1, a2, a3, a4, a5⟩ := after_at hP v 20 le_rfl
  pointwise [Body.reg]
  rw [smooth_at, smooth_at, smooth_at, smooth_at, smooth_at, smooth_at]
  unfold Spec.reg
  rw [Fin.sum_univ_six]
  have hp : Spec.pos X S b v = 0 ∨ Spec.pos X S b v = 1 := top_flag (Spec.cover_flag X hS half b v) 20
  rw [show (after (F := Ideal) P 20).pos (ix2 (row v) (lane v)) = Spec.pos X S b v from ap]
  rcases hp with hp | hp
  · rw [hp]
    simp only [mul_zero, add_zero]
  · rw [hp]
    simp only [mul_one]
    refine congrArg₂ (· + ·) (congrArg₂ (· + ·) (congrArg₂ (· + ·) (congrArg₂ (· + ·) (congrArg₂ (· + ·) ?_ ?_) ?_) ?_) ?_) ?_
    · exact congrArg Flags.smooth (congrArg₂ (· - ·) (pred_at ht hf hγ 1 slices_S8x256x128_o1_0_0_S1x256x128 v) a0)
    · exact congrArg Flags.smooth (congrArg₂ (· - ·) (pred_at ht hf hγ 2 slices_S8x256x128_o2_0_0_S1x256x128 v) a1)
    · exact congrArg Flags.smooth (congrArg₂ (· - ·) (pred_at ht hf hγ 3 slices_S8x256x128_o3_0_0_S1x256x128 v) a2)
    · exact congrArg Flags.smooth (congrArg₂ (· - ·) (pred_at ht hf hγ 4 slices_S8x256x128_o4_0_0_S1x256x128 v) a3)
    · exact congrArg Flags.smooth (congrArg₂ (· - ·) (pred_at ht hf hγ 5 slices_S8x256x128_o5_0_0_S1x256x128 v) a4)
    · exact congrArg Flags.smooth (congrArg₂ (· - ·) (pred_at ht hf hγ 6 slices_S8x256x128_o6_0_0_S1x256x128 v) a5)

/-- A sum over both images of planes that hold a function of the voxel. -/
theorem both_at (g : Fin 2 → Spec.Voxel → EReal) (p q : Plane Ideal)
    (hp : ∀ v, p (ix2 (row v) (lane v)) = g 0 v) (hq : ∀ v, q (ix2 (row v) (lane v)) = g 1 v) :
    both (F := Ideal) p q = Spec.sum g := by
  have e0 : (Scalar.ofBits (F := Ideal) .f32 0x00000000#32 : EReal) = 0 := by pointwise []
  have e : both (F := Ideal) p q = Scalar.ofBits (F := Ideal) .f32 0x00000000#32 + total (F := Ideal) p + total (F := Ideal) q := rfl
  rw [e, e0, zero_add, total_at, total_at, funext hp, funext hq]
  unfold Spec.sum
  rw [Fin.sum_univ_two]

/-- The value the body stores is the loss. -/
theorem loss_eq {Q : ℕ → Fin 10 → EReal} {f' : Vec Ideal S1x32x32768 .f32}
    (hS : Spec.Flagged S) (hP : Boxed P X S 0) (hQ : Boxed Q X S 1) (ht : Slabs t w)
    (hf : Image f u 0) (hf' : Image f' u 1) (hγ : Biased γ β) :
    loss (F := Ideal) P Q γ t f f' = Spec.value X S u w β := by
  unfold loss
  rw [both_at (Spec.clsPos X S u w β) _ _ (clsPos_at hP ht hf hγ) (clsPos_at hQ ht hf' hγ),
    both_at (Spec.clsNeg X S u w β) _ _ (clsNeg_at hP ht hf hγ) (clsNeg_at hQ ht hf' hγ),
    both_at (Spec.reg X S u w β) _ _ (reg_at hS hP ht hf hγ) (reg_at hS hQ ht hf' hγ),
    both_at (Spec.pos X S) _ _ (fun v => (after_at hP v 20 le_rfl).1) (fun v => (after_at hQ v 20 le_rfl).1),
    both_at (Spec.far X S) _ _ (far_at hP) (far_at hQ)]
  rfl

end Cert.KernelIdeal.Total
-- ==== Proof.Host.lean ====
/- What the kernel's windows hold when the call starts: the table of boxes, the slabs of weights and the flat images, read
   entry by entry off the five argument arrays. -/
module

public import proofs.«01_k».proof.Proof.Total
public import Idealize.ShloMosaic.Lib.Claim

@[expose] public section

set_option maxRecDepth 65536

noncomputable section

namespace Cert.KernelIdeal.Host

open Cert.KernelIdeal Cert.KernelIdeal.Gen Cert.KernelIdeal.Conv Cert.Flags Idealize.ShloMosaic Idealize.ShloMosaic.TcCoe
  Idealize.SL.Sem

variable (m : (ℓ : Loc nD τ sig) → Buf (Elt Ideal) ℓ) (c : Dev nD) (σ : Valuation τ sig (Elt Ideal))

/-- The features' contents at launch. -/
abbrev feats : Spec.Feats := m ((c : Thread nD τ).loc main_arg2)
/-- The boxes' contents at launch. -/
abbrev boxes : Spec.Boxes := m ((c : Thread nD τ).loc main_arg0)
/-- The scores' contents at launch. -/
abbrev scores : Spec.Scores := m ((c : Thread nD τ).loc main_arg1)
/-- The weights' contents at launch. -/
abbrev weights : Spec.Weights := m ((c : Thread nD τ).loc main_arg3)
/-- The biases' contents at launch. -/
abbrev biases : Spec.Bias := m ((c : Thread nD τ).loc main_arg4)

/-- The window of the images: the features, flat over the voxels. -/
theorem image_at (b : Fin 2) (ch : Fin 32) (v : Spec.Voxel) :
    (V (F := Ideal) m c main_v0 : FVec Ideal S2x32x32768 .f32) (ix3 b ch (place v)) = feats m c (ix5 b ch (v 2) (v 1) (v 0)) := by
  unfold V hostOps0 hostOps0_1 hostOps0_2 hostOps0_3 hostOps0_4
  simp only [List.flatten_cons, List.flatten_nil, List.cons_append, List.nil_append, List.append_nil]
  entry_read
  pointwise []
  have hx := (v 0).isLt
  have hy := (v 1).isLt
  have hz := (v 2).isLt
  have e2 : (⟨(place v).val / 1024, by omega⟩ : Fin 32) = v 2 := Fin.ext (by simp only [place]; omega)
  have e1 : (⟨(place v).val / 32 % 32, by omega⟩ : Fin 32) = v 1 := Fin.ext (by simp only [place]; omega)
  have e0 : (⟨(place v).val % 32, by omega⟩ : Fin 32) = v 0 := Fin.ext (by simp only [place]; omega)
  rw [e2, e1, e0]

/-- The window of the weights, entry by entry. -/
theorem slab_flat (q : Fin 9) (o : Fin 8) (l : Fin 96) :
    (V (F := Ideal) m c main_v4 : FVec Ideal S9x8x96 .bf16) (ix3 q o l)
      = if h : o.val < 7 then weights m c (ix5 ⟨o.val, h⟩ ⟨l.val % 32, by omega⟩ ⟨q.val % 3, by omega⟩ ⟨q.val / 3, by omega⟩ ⟨l.val / 32, by omega⟩)
        else FloatOps.sitofp (F := Ideal) .f32 0#32 := by
  unfold V hostOps0 hostOps0_1 hostOps0_2 hostOps0_3 hostOps0_4
  simp only [List.flatten_cons, List.flatten_nil, List.cons_append, List.nil_append, List.append_nil]
  entry_read
  simp -implicitDefEqProofs only [StableHlo.TRef.ofBuf_toBuf, StableHlo.TRef.toBuf, StableHlo.TRef.ofBuf, cast_eq]
  pointwise []

/-- The window of the weights: a slab per tap in the plane, its columns the channels under the three taps along z. -/
theorem slab_at (o : Fin 7) (i j : Fin 3) (ch : Fin 32) (k : Fin 3) :
    (V (F := Ideal) m c main_v4 : FVec Ideal S9x8x96 .bf16)
        (ix3 ⟨3 * j.val + i.val, by omega⟩ ⟨o.val, by omega⟩ ⟨ch.val + 32 * k.val, by omega⟩)
      = weights m c (ix5 o ch i j k) := by
  refine (slab_flat m c _ _ _).trans ?_
  rw [dif_pos o.isLt]
  congr 2 <;> apply Fin.ext <;> simp only [] <;> omega

/-- The table is written by the last stretch of host operations, from the boxes' columns and the biases' row. -/
theorem table_read (b : Fin 2) (n : Fin 21) (j : Fin 10) :
    (StableHlo.after (hostOps0_4 (F := Ideal)) σ main_v26 : FVec Ideal S2x21x10 .f32) (ix3 b n j)
      = if h : n.val < 20 then (σ main_v22 : FVec Ideal S2x20x10 .f32) (ix3 b ⟨n.val, h⟩ j)
        else (σ main_v23 : FVec Ideal S10 .f32) (ix1 j) := by
  unfold hostOps0_4
  entry_read
  pointwise []

/-- The biases' row: the biases, then zeros. -/
theorem row_read (o : Fin 7) :
    (StableHlo.after (hostOps0_3 (F := Ideal)) σ main_v23 : FVec Ideal S10 .f32) (ix1 ⟨o.val, by omega⟩)
      = (σ main_arg4 : FVec Ideal S7 .f32) (ix1 o) := by
  unfold hostOps0_3
  entry_read
  simp -implicitDefEqProofs only [StableHlo.TRef.ofBuf_toBuf, StableHlo.TRef.toBuf, StableHlo.TRef.ofBuf, cast_eq]
  pointwise []

/-- The boxes' columns are kept by the biases' stretch. -/
theorem kept_columns : StableHlo.after (hostOps0_3 (F := Ideal)) σ main_v22 = σ main_v22 := by
  unfold hostOps0_3
  entry_read
  rfl

/-- The stretch that computes the columns, cut before they are put side by side. -/
theorem columns_cut : StableHlo.after (hostOps0_2 (F := Ideal)) σ
    = StableHlo.after (hostOps0_2.drop 23) (StableHlo.after (hostOps0_2.take 23) σ) := rfl

/-- The columns side by side. -/
theorem columns_read (b : Fin 2) (n : Fin 20) (j : Fin 10) :
    (StableHlo.after ((hostOps0_2 (F := Ideal)).drop 23) σ main_v22 : FVec Ideal S2x20x10 .f32) (ix3 b n j)
      = if h : j.val < 3 then (σ main_v9 : FVec Ideal S2x20x3 .f32) (ix3 b n ⟨j.val, h⟩)
        else if h : j.val < 6 then (σ main_v15 : FVec Ideal S2x20x3 .f32) (ix3 b n ⟨j.val - 3, by omega⟩)
        else if h : j.val < 9 then (σ main_v20 : FVec Ideal S2x20x3 .f32) (ix3 b n ⟨j.val - 6, by omega⟩)
        else (σ main_v21 : FVec Ideal S2x20x1 .f32) (ix3 b n 0) := by
  unfold hostOps0_2
  simp only [List.drop_succ_cons, List.drop_zero]
  entry_read
  pointwise []
  have h3 := j.isLt
  split
  · rfl
  · by_cases h6 : j.val < 6
    · rw [dif_pos (by omega), dif_pos h6]
    · rw [dif_neg (by omega), dif_neg h6]
      by_cases h9 : j.val < 9
      · rw [dif_pos (by omega), dif_pos h9]
        congr 2
      · rw [dif_neg (by omega), dif_neg h9]
        congr 2
        apply Fin.ext
        show j.val - 3 - 3 - 3 = 0
        omega

variable (b : Fin 2) (n : Fin 20) (a : Fin 3)

/-- The centres' columns. -/
theorem centre_read : (StableHlo.after ((hostOps0_2 (F := Ideal)).take 23) σ main_v9 : FVec Ideal S2x20x3 .f32) (ix3 b n a)
    = Spec.centre (σ main_arg0) b n a := by
  unfold hostOps0_2
  simp only [List.take_succ_cons, List.take_zero]
  entry_read
  pointwise []
  unfold Spec.centre
  congr 2
  apply Fin.ext
  show 3 + (a.val * 4 + 3) = 6 + 4 * a.val
  omega

/-- The reciprocal units' columns. -/
theorem unit_read : (StableHlo.after ((hostOps0_2 (F := Ideal)).take 23) σ main_v15 : FVec Ideal S2x20x3 .f32) (ix3 b n a)
    = Ideal.div 1 (Spec.unit (σ main_arg0) b n a) := by
  unfold hostOps0_2
  simp only [List.take_succ_cons, List.take_zero]
  entry_read
  pointwise []
  rfl

/-- The columns of the lengths' logarithms. -/
theorem log_read : (StableHlo.after ((hostOps0_2 (F := Ideal)).take 23) σ main_v20 : FVec Ideal S2x20x3 .f32) (ix3 b n a)
    = Spec.loglen (σ main_arg0) b n a := by
  unfold hostOps0_2
  simp only [List.take_succ_cons, List.take_zero]
  entry_read
  pointwise []
  rfl

/-- The scores' column. -/
theorem score_read : (StableHlo.after ((hostOps0_2 (F := Ideal)).take 23) σ main_v21 : FVec Ideal S2x20x1 .f32) (ix3 b n 0)
    = (σ main_arg1 : FVec Ideal S2x20 .f32) (ix2 b n) := by
  unfold hostOps0_2
  simp only [List.take_succ_cons, List.take_zero]
  entry_read
  pointwise []

/-- The boxes, the scores and the biases reach the stretch unchanged. -/
theorem launched : StableHlo.after (hostOps0_1 (F := Ideal)) (StableHlo.after hostOps0 fun b => m (c, b)) main_arg0 = boxes m c
    ∧ StableHlo.after (hostOps0_1 (F := Ideal)) (StableHlo.after hostOps0 fun b => m (c, b)) main_arg1 = scores m c
    ∧ StableHlo.after (hostOps0_2 (F := Ideal)) (StableHlo.after hostOps0_1 (StableHlo.after hostOps0 fun b => m (c, b))) main_arg4 = biases m c := by
  refine ⟨?_, ?_, ?_⟩
  · unfold hostOps0_1 hostOps0
    entry_read
    rfl
  · unfold hostOps0_1 hostOps0
    entry_read
    rfl
  · unfold hostOps0_2 hostOps0_1 hostOps0
    entry_read
    rfl

/-- What a window's operand holds when the call starts, stretch by stretch. -/
theorem V_split (r : Ref sig .tc) : V (F := Ideal) m c r = StableHlo.after hostOps0_4 (StableHlo.after hostOps0_3
    (StableHlo.after hostOps0_2 (StableHlo.after hostOps0_1 (StableHlo.after hostOps0 fun b => m (c, b))))) r := rfl

/-- A box's row of the table is its columns' row. -/
theorem table_box (j : Fin 10) : (V (F := Ideal) m c main_v26 : FVec Ideal S2x21x10 .f32) (ix3 b ⟨n.val, by omega⟩ j)
    = (StableHlo.after (hostOps0_2.drop 23) (StableHlo.after (hostOps0_2.take 23) (StableHlo.after hostOps0_1
        (StableHlo.after hostOps0 fun b => m (c, b)))) main_v22 : FVec Ideal S2x20x10 .f32) (ix3 b n j) := by
  rw [V_split]
  refine (table_read _ _ _ _).trans ?_
  rw [dif_pos n.isLt, kept_columns, columns_cut]

/-- The table's entries for a box. -/
theorem table_entries (i : Fin 3) :
    (V (F := Ideal) m c main_v26 : FVec Ideal S2x21x10 .f32) (ix3 b ⟨n.val, by omega⟩ ⟨i.val, by omega⟩) = Spec.centre (boxes m c) b n i
    ∧ (V (F := Ideal) m c main_v26 : FVec Ideal S2x21x10 .f32) (ix3 b ⟨n.val, by omega⟩ ⟨3 + i.val, by omega⟩)
      = Ideal.div 1 (Spec.unit (boxes m c) b n i)
    ∧ (V (F := Ideal) m c main_v26 : FVec Ideal S2x21x10 .f32) (ix3 b ⟨n.val, by omega⟩ ⟨6 + i.val, by omega⟩)
      = Spec.loglen (boxes m c) b n i
    ∧ (V (F := Ideal) m c main_v26 : FVec Ideal S2x21x10 .f32) (ix3 b ⟨n.val, by omega⟩ 9) = scores m c (ix2 b n) := by
  refine ⟨?_, ?_, ?_, ?_⟩
  · refine (table_box m c b n _).trans ((columns_read _ _ _ _).trans ?_)
    rw [dif_pos i.isLt]
    refine (centre_read _ b n i).trans ?_
    rw [(launched m c).1]
  · refine (table_box m c b n _).trans ((columns_read _ _ _ _).trans ?_)
    rw [dif_neg (by simp only []; omega), dif_pos (by simp only []; omega)]
    refine Eq.trans ?_ ((unit_read (StableHlo.after hostOps0_1 (StableHlo.after hostOps0 fun b => m (c, b))) b n i).trans ?_)
    · congr 2
      apply Fin.ext
      simp
    · rw [(launched m c).1]
  · refine (table_box m c b n _).trans ((columns_read _ _ _ _).trans ?_)
    rw [dif_neg (by simp only []; omega), dif_neg (by simp only []; omega), dif_pos (by simp only []; omega)]
    refine Eq.trans ?_ ((log_read (StableHlo.after hostOps0_1 (StableHlo.after hostOps0 fun b => m (c, b))) b n i).trans ?_)
    · congr 2
      apply Fin.ext
      simp
    · rw [(launched m c).1]
  · refine (table_box m c b n _).trans ((columns_read _ _ _ _).trans ?_)
    rw [dif_neg (by decide), dif_neg (by decide), dif_neg (by decide)]
    refine (score_read _ b n).trans ?_
    rw [(launched m c).2.1]

/-- The table's last row holds the biases. -/
theorem table_bias (o : Fin 7) :
    (V (F := Ideal) m c main_v26 : FVec Ideal S2x21x10 .f32) (ix3 0 20 ⟨o.val, by omega⟩) = biases m c (ix1 o) := by
  rw [V_split]
  refine (table_read _ _ _ _).trans ?_
  rw [dif_neg (by decide)]
  refine (row_read _ o).trans ?_
  rw [(launched m c).2.2]

end Cert.KernelIdeal.Host
-- ==== Proof.Final.lean ====
/- What the kernel's result holds after the run: the loss of the five argument arrays. -/
module

public import proofs.«01_k».proof.Proof.Host
public import Idealize.ShloMosaic.Lib.WholeRead
public import Idealize.ShloMosaic.Lib.Pipeline.ValueKit

@[expose] public section

set_option maxRecDepth 65536

noncomputable section

namespace Cert.KernelIdeal.Final

open Cert.KernelIdeal Cert.KernelIdeal.Gen Cert.KernelIdeal.Value Cert.KernelIdeal.Body Cert.KernelIdeal.Host Cert.Flags
  Idealize.ShloMosaic Idealize.ShloMosaic.TcCoe Idealize.SL.Sem

/-- An entry the body loads is the table's entry. -/
theorem entry_apply (arg0 : Memref sig .tc .smem S2x21x10 .f32) (harg0 : arg0.IsWhole) (x0 : Vec Ideal S2x21x10 .f32)
    (b : Fin 2) (n : Fin 21) (j : Fin 10) : entry (F := Ideal) arg0 harg0 x0 b n j = x0 (ix3 b n j) := by
  unfold entry
  rw [Memref.IsWhole.readAt_unread]
  congr 1
  funext a
  apply Fin.ext
  fin_cases a <;> simp [Rect.unit, LoadRect.idx, ix3] <;> try rfl

/-- A slab the body loads is the weights' slab. -/
theorem slab_apply (arg1 : Memref sig .tc .vmem S9x8x96 .bf16) (harg1 : arg1.IsWhole) (x1 : Vec Ideal S9x8x96 .bf16)
    (q : Fin 9) (o : Fin 8) (l : Fin 96) :
    View.readAt (Elt Ideal) arg1.view (Rect.unit (s := S9x8x96) ![q.val, 0, 0] S1x8x96.size (slab_inside q)).toLoadRect
      (harg1.unread x1) (ix3 0 o l) = x1 (ix3 q o l) := by
  rw [Memref.IsWhole.readAt_unread]
  congr 1
  funext a
  apply Fin.ext
  fin_cases a <;> simp [Rect.unit, LoadRect.idx, ix3] <;> try rfl

variable (m : (ℓ : Loc nD τ sig) → Buf (Elt Ideal) ℓ) (c : Dev nD)

/-- An image the body loads is the flat image. -/
theorem image_apply (arg2 : Memref sig .tc .vmem S2x32x32768 .f32) (harg2 : arg2.IsWhole) (x2 : Vec Ideal S2x32x32768 .f32)
    (b : Fin 2) (h : ∀ k, (![b.val, 0, 0] : Fin 3 → ℕ) k + S1x32x32768.size k ≤ S2x32x32768.size k) (ch : Fin 32) (g : Fin 32768) :
    View.readAt (Elt Ideal) arg2.view (Rect.unit (s := S2x32x32768) ![b.val, 0, 0] S1x32x32768.size h).toLoadRect
      (harg2.unread x2) (ix3 0 ch g) = x2 (ix3 b ch g) := by
  rw [Memref.IsWhole.readAt_unread]
  congr 1
  funext a
  apply Fin.ext
  fin_cases a <;> simp [Rect.unit, LoadRect.idx, ix3] <;> try rfl

/-- Every window is its whole array. -/
theorem index_zero : win0_0.index t0_0 = ![0, 0, 0] ∧ win0_1.index t0_0 = ![0, 0, 0] ∧ win0_2.index t0_0 = ![0, 0, 0] := by
  have h : ∀ t : Fin cfg0.N, win0_0.index t = ![0, 0, 0] ∧ win0_1.index t = ![0, 0, 0] ∧ win0_2.index t = ![0, 0, 0] :=
    (by decide +kernel : ∀ t : Fin grid0.N, _)
  exact h t0_0

/-- The table's block is the table. -/
theorem block_table (b : Fin 2) (n : Fin 21) (j : Fin 10) : (iblk m c 0 t0_0 : Vec Ideal S2x21x10 .f32) (ix3 b n j)
    = (V (F := Ideal) m c main_v26 : FVec Ideal S2x21x10 .f32) (ix3 b n j) := by
  blk_ext! [iblk, index_zero]

/-- The weights' block is the weights. -/
theorem block_slab (q : Fin 9) (o : Fin 8) (l : Fin 96) : (iblk m c 1 t0_0 : Vec Ideal S9x8x96 .bf16) (ix3 q o l)
    = (V (F := Ideal) m c main_v4 : FVec Ideal S9x8x96 .bf16) (ix3 q o l) := by
  blk_ext! [iblk, index_zero]

/-- The images' block is the images. -/
theorem block_image (b : Fin 2) (ch : Fin 32) (g : Fin 32768) : (iblk m c 2 t0_0 : Vec Ideal S2x32x32768 .f32) (ix3 b ch g)
    = (V (F := Ideal) m c main_v0 : FVec Ideal S2x32x32768 .f32) (ix3 b ch g) := by
  blk_ext! [iblk, index_zero]

/-- The entries the body loads are the boxes'. -/
theorem boxed (b : Fin 2) : Voxel.Boxed (fun n j => entry (F := Ideal) (ms0_0 t0_0) (hs0_0 t0_0) (iblk m c 0 t0_0) b (Fin.ofNat 21 n) j)
    (boxes m c) (scores m c) b := fun n => by
  have hn : Fin.ofNat 21 n.val = (⟨n.val, by omega⟩ : Fin 21) := Fin.ext (Nat.mod_eq_of_lt (by omega))
  have e : ∀ j : Fin 10, entry (F := Ideal) (ms0_0 t0_0) (hs0_0 t0_0) (iblk m c 0 t0_0) b (Fin.ofNat 21 n.val) j
      = (V (F := Ideal) m c main_v26 : FVec Ideal S2x21x10 .f32) (ix3 b ⟨n.val, by omega⟩ j) := fun j => by
    rw [hn]
    exact (entry_apply _ _ _ b _ j).trans (block_table m c b _ j)
  refine ⟨fun i => ⟨(e _).trans (table_entries m c b n i).1, (e _).trans (table_entries m c b n i).2.1,
    (e _).trans (table_entries m c b n i).2.2.1⟩, (e _).trans (table_entries m c b n 0).2.2.2⟩

/-- The biases the body loads. -/
theorem biased : Total.Biased (fun j => entry (F := Ideal) (ms0_0 t0_0) (hs0_0 t0_0) (iblk m c 0 t0_0) 0 20 (Fin.ofNat 10 j))
    (biases m c) := fun o => by
  have ho : Fin.ofNat 10 o.val = (⟨o.val, by omega⟩ : Fin 10) := Fin.ext (Nat.mod_eq_of_lt (by omega))
  show entry (F := Ideal) (ms0_0 t0_0) (hs0_0 t0_0) (iblk m c 0 t0_0) 0 20 (Fin.ofNat 10 o.val) = _
  rw [ho]
  exact (entry_apply _ _ _ 0 20 _).trans ((block_table m c 0 20 _).trans (table_bias m c o))

/-- The slabs the body loads. -/
theorem slabs : Total.Slabs (fun q => View.readAt (Elt Ideal) (ms0_1 t0_0).view
    (Rect.unit (s := S9x8x96) ![q.val, 0, 0] S1x8x96.size (slab_inside q)).toLoadRect ((hs0_1 t0_0).unread (iblk m c 1 t0_0)))
    (weights m c) := fun o i j ch k =>
  (slab_apply _ _ _ _ _ _).trans ((block_slab m c _ _ _).trans (slab_at m c o i j ch k))

/-- After the run the result holds the loss of the arguments, the scores being zero or one. -/
theorem final (hS : Spec.Flagged (scores m c)) : (dats (F := Ideal) m 0 c).arrAt 3 cfg0.N
    = fun _ => Spec.value (boxes m c) (scores m c) (feats m c) (weights m c) (biases m c) := by
  refine (dats m 0 c).arrAt_eq_of_after_last 3 t0_0 (by decide +kernel) _ fun j => ?_
  blk_simp
  rw [after0_3]
  unfold outsAt0
  rw [body_reads]
  exact Total.loss_eq hS (boxed m c 0) (boxed m c 1) (slabs m c)
    (fun ch v => (image_apply _ _ _ 0 _ ch _).trans ((block_image m c 0 ch _).trans (image_at m c 0 ch v)))
    (fun ch v => (image_apply _ _ _ 1 _ ch _).trans ((block_image m c 1 ch _).trans (image_at m c 1 ch v)))
    (biased m c)

end Cert.KernelIdeal.Final
-- ==== Proof.Taps.lean ====
/- The reference's convolution: 27 products of a shifted window of the padded image with one tap's weights, read at a
   voxel. -/
module

public import proofs.«01_k».proof.Proof.Spec
public import proofs.«01_k».proof.Proof.Gen.ReferenceIdeal.Read

@[expose] public section

set_option maxRecDepth 65536

noncomputable section

namespace Cert.ReferenceIdeal.Taps

open Cert.ReferenceIdeal Cert.ReferenceIdeal.Gen Cert.ReferenceIdeal.Read Idealize.ShloMosaic

/-- A tap's weights lie inside the weights. -/
theorem weights_inside (i j k : Fin 3) : S7x32x3x3x3.Slices ![0, 0, i.val, j.val, k.val] S7x32x1x1x1 := by
  revert i j k
  decide

/-- A tap's window lies inside the padded image. -/
theorem window_inside (i j k : Fin 3) : S2x32x34x34x34.Slices ![0, 0, i.val, j.val, k.val] S2x32x32x32x32 := by
  revert i j k
  decide

/-- One tap: the window's product with the tap's weights. -/
def step (f : Spec.Feats) (w : Spec.Weights) (i j k : Fin 3) : FVec Ideal S2x7x32x32x32 .f32 :=
  transpose S2x7x32x32x32 [0, 4, 1, 2, 3]
    (Host.dotGeneral (F := Ideal) (φ₁ := .f32) (φ₂ := .f32) dot_S2x32x32x32x32_S7x32_S2x32x32x32x7_1_1_0234_0_n_n none
      (extractStridedSlice S2x32x32x32x32 ![0, 0, i.val, j.val, k.val] (val_main_v1 (F := Ideal) f) (window_inside i j k))
      (shapeCast S7x32 (extractStridedSlice S7x32x1x1x1 ![0, 0, i.val, j.val, k.val] w (weights_inside i j k))
        shapeCasts_S7x32x1x1x1_S7x32))
    transposes_S2x32x32x32x7_S2x7x32x32x32_0_4_1_2_3

/-- The padded image at an index. -/
theorem padded_at (f : Spec.Feats) (b : Fin 2) (c : Fin 32) (x y z : Fin 34) :
    val_main_v1 (F := Ideal) f (ix5 b c x y z) = Spec.padded f b c x.val y.val z.val := by
  have h0 : val_main_call0_v0 (F := Ideal) (Shape.Idx.first h_S_) = 0 := by
    pointwise [val_main_call0_v0, val_main_c]
    show (((0#32 : BitVec 32).toInt : ℝ) : EReal) = 0
    simp
  pointwise [val_main_v1, val_main_v0]
  rw [h0]
  unfold Spec.padded
  by_cases h : (1 ≤ x.val ∧ x.val ≤ 32) ∧ (1 ≤ y.val ∧ y.val ≤ 32) ∧ (1 ≤ z.val ∧ z.val ≤ 32)
  · rw [dif_pos (by omega), dif_pos h]
  · rw [dif_neg (by omega), dif_neg h]

/-- One tap at a voxel. -/
theorem step_at (f : Spec.Feats) (w : Spec.Weights) (i j k : Fin 3) (b : Fin 2) (o : Fin 7) (x y z : Fin 32) :
    step f w i j k (ix5 b o x y z) = Spec.tap f w b o ![x, y, z] i j k := by
  pointwise [step]
  refine Finset.sum_congr rfl fun c _ => (mul_comm _ _).trans (congrArg (w _ * ·) ((padded_at f b c _ _ _).trans ?_))
  show Spec.padded f b c (i.val + x.val) (j.val + y.val) (k.val + z.val)
    = Spec.padded f b c (x.val + i.val) (y.val + j.val) (z.val + k.val)
  rw [Nat.add_comm i.val, Nat.add_comm j.val, Nat.add_comm k.val]

/-- The sum of the first `n` taps, in the reference's order. -/
def chain (f : Spec.Feats) (w : Spec.Weights) (n : ℕ) : FVec Ideal S2x7x32x32x32 .f32 :=
  Nat.rec (val_main_v7 (F := Ideal)) (fun n s => addf s (step f w (Fin.ofNat 3 (n / 9)) (Fin.ofNat 3 (n / 3)) (Fin.ofNat 3 n))) n

/-- The reference's convolution is the sum of its 27 taps. -/
theorem chain_eq (f : Spec.Feats) (w : Spec.Weights) : val_main_v164 (F := Ideal) f w = chain f w 27 := rfl

/-- The sum of the first `n` taps at a voxel. -/
theorem chain_at (f : Spec.Feats) (w : Spec.Weights) (n : ℕ) (b : Fin 2) (o : Fin 7) (x y z : Fin 32) :
    chain f w n (ix5 b o x y z) = ∑ k : Fin n, Spec.tap f w b o ![x, y, z] (Fin.ofNat 3 (k.val / 9))
      (Fin.ofNat 3 (k.val / 3)) (Fin.ofNat 3 k.val) := by
  induction n with
  | zero =>
    show val_main_v7 (F := Ideal) (ix5 b o x y z) = _
    rw [Finset.univ_eq_empty, Finset.sum_empty]
    pointwise [val_main_v7, val_main_cst]
  | succ n ih =>
    rw [Fin.sum_univ_castSucc]
    exact congrArg₂ (· + ·) ih (step_at f w _ _ _ b o x y z)

/-- The 27 taps, one axis after the other. -/
theorem sum_taps (g : Fin 3 → Fin 3 → Fin 3 → EReal) :
    ∑ k : Fin 27, g (Fin.ofNat 3 (k.val / 9)) (Fin.ofNat 3 (k.val / 3)) (Fin.ofNat 3 k.val)
      = ∑ i : Fin 3, ∑ j : Fin 3, ∑ k : Fin 3, g i j k := by
  simp only [Fin.sum_univ_castSucc, Finset.univ_eq_empty, Finset.sum_empty, zero_add, add_assoc]
  rfl

/-- The convolution with its bias, at a voxel. -/
theorem pred_at (f : Spec.Feats) (w : Spec.Weights) (β : Spec.Bias) (b : Fin 2) (o : Fin 7) (x y z : Fin 32) :
    val_main_v168 (F := Ideal) f w β (ix5 b x y z o) = Spec.pred f w β b o ![x, y, z] := by
  have h : val_main_v164 (F := Ideal) f w (ix5 b o x y z)
      = ∑ i : Fin 3, ∑ j : Fin 3, ∑ k : Fin 3, Spec.tap f w b o ![x, y, z] i j k :=
    (congrFun (chain_eq f w) _).trans ((chain_at f w 27 b o x y z).trans (sum_taps _))
  unfold Spec.pred
  rw [← h]
  pointwise [val_main_v168, val_main_v167, val_main_v166, val_main_v165]

/-- The probability of an object, at a voxel. -/
theorem prob_at (f : Spec.Feats) (w : Spec.Weights) (β : Spec.Bias) (b : Fin 2) (x y z : Fin 32) :
    val_main_v176 (F := Ideal) f w β (ix4 b x y z) = Spec.prob f w β b ![x, y, z] := by
  unfold Spec.prob
  rw [← pred_at f w β b 0 x y z]
  pointwise [val_main_v176, val_main_v175, val_main_cst_1, val_main_v174, val_main_v173, val_main_cst_0, val_main_v172,
    val_main_v171, val_main_v170, val_main_v169]
  rfl

/-- The predicted offsets, at a voxel. -/
theorem offset_at (f : Spec.Feats) (w : Spec.Weights) (β : Spec.Bias) (b : Fin 2) (x y z : Fin 32) (j : Fin 6) :
    val_main_v177 (F := Ideal) f w β (ix5 b x y z j) = Spec.pred f w β b ⟨j.val + 1, by omega⟩ ![x, y, z] := by
  rw [← pred_at f w β b ⟨j.val + 1, by omega⟩ x y z]
  pointwise [val_main_v177]
  congr 2
  exact Fin.ext (Nat.add_comm 1 j.val)

end Cert.ReferenceIdeal.Taps
-- ==== Proof.Boxes.lean ====
/- The reference's boxes: how far a voxel lies from each of them, their marks at the voxel, and the offsets they gather
   there. -/
module

public import proofs.«01_k».proof.Proof.Spec
public import proofs.«01_k».proof.Proof.Gen.ReferenceIdeal.Read

@[expose] public section

set_option maxRecDepth 65536

noncomputable section

namespace Cert.ReferenceIdeal.Boxes

open Cert.ReferenceIdeal Cert.ReferenceIdeal.Gen Cert.ReferenceIdeal.Read Cert.Flags Idealize.ShloMosaic

variable (X : Spec.Boxes) (S : Spec.Scores)

/-- A centre of a box. -/
theorem centre_at (b : Fin 2) (n : Fin 20) (a : Fin 3) :
    val_main_v183 (F := Ideal) X (ix3 b n a) = Spec.centre X b n a := by
  match a with
  | ⟨0, _⟩ => pointwise [val_main_v183, val_main_v182, val_main_v180, val_main_v179]; rfl
  | ⟨1, _⟩ => pointwise [val_main_v183, val_main_v182, val_main_v180, val_main_v179]; rfl
  | ⟨2, _⟩ => pointwise [val_main_v183, val_main_v182, val_main_v180, val_main_v179]; rfl

/-- A voxel's coordinate. -/
theorem coord_at (x y z : Fin 32) (a : Fin 3) :
    val_main_v224 (F := Ideal) (ix4 x y z a) = Spec.coord ((![x, y, z] : Spec.Voxel) a).val := by
  match a with
  | ⟨0, _⟩ =>
    pointwise [val_main_v224, val_main_v223, val_main_v220, val_main_v217, val_main_v214]
    rfl
  | ⟨1, _⟩ => pointwise [val_main_v224, val_main_v223, val_main_v221, val_main_v218, val_main_v215]; rfl
  | ⟨2, _⟩ => pointwise [val_main_v224, val_main_v223, val_main_v222, val_main_v219, val_main_v216]; rfl

/-- How far a centre lies from a voxel. -/
theorem gap_at (b : Fin 2) (n : Fin 20) (x y z : Fin 32) (a : Fin 3) :
    val_main_v229 (F := Ideal) X (ix6 b n x y z a) = Spec.gap X b n ![x, y, z] a := by
  unfold Spec.gap
  rw [← centre_at X b n a, ← coord_at x y z a]
  pointwise [val_main_v229, val_main_v227, val_main_v225, val_main_v228, val_main_v226]

/-- The same in units of the box. -/
theorem quot_at (b : Fin 2) (n : Fin 20) (x y z : Fin 32) (a : Fin 3) :
    val_main_v251 (F := Ideal) X (ix6 b n x y z a) = Ideal.div
      (max (Spec.gap X b n ![x, y, z] a) (-(Spec.gap X b n ![x, y, z] a))) (Spec.unit X b n a) := by
  unfold Spec.unit Spec.len
  rw [← gap_at X b n x y z a]
  pointwise [val_main_v251, val_main_v246, val_main_v250, val_main_v248, val_main_v240, val_main_v239, val_main_v178,
    val_main_v247, val_main_cst_11, val_main_v249, val_main_cst_12]
  rfl

/-- The largest of the three lies below a threshold exactly when the voxel lies within it along every axis. -/
theorem dist_lt (b : Fin 2) (n : Fin 20) (x y z : Fin 32) (c : EReal) (hc : 0 < c) :
    val_main_v252 (F := Ideal) X (ix5 b n x y z) < c ↔ Spec.Within X c b n ![x, y, z] := by
  have hr : S2x20x32x32x32x3.Reduces [5] S2x20x32x32x32 := by decide
  have e : val_main_v252 (F := Ideal) X (ix5 b n x y z)
      = (Finset.univ : Finset (Fin 3)).fold max ⊥ fun a => val_main_v251 (F := Ideal) X (ix6 b n x y z a) := by
    have hb : val_main_cst_13 (F := Ideal) (Shape.Idx.first h_S_) = (⊥ : EReal) := by
      pointwise [val_main_cst_13]
      simp [Ideal.ofBits, Ideal.ieee]
    have hl : ∀ a : Fin 3, hr.lift (ix5 b n x y z) a = ix6 b n x y z a := fun a => funext fun c => Fin.ext (by
      match c with
      | ⟨0, _⟩ => rfl
      | ⟨1, _⟩ => rfl
      | ⟨2, _⟩ => rfl
      | ⟨3, _⟩ => rfl
      | ⟨4, _⟩ => rfl
      | ⟨5, _⟩ => rfl)
    refine (Host.reduce_eq_fold_single (FloatOps.maximumf (F := Ideal) (φ := .f32)) (val_main_v251 (F := Ideal) X)
      (val_main_cst_13 (F := Ideal)) reducesTo_S2x20x32x32x32x3_S2x20x32x32x32_d5 hr h_S_ (ix5 b n x y z)).trans ?_
    rw [hb]
    exact congrArg ((Finset.univ : Finset (Fin 3)).fold max (⊥ : EReal))
      (funext fun a => congrArg (val_main_v251 (F := Ideal) X) (hl a))
  rw [e, Finset.fold_max_lt]
  unfold Spec.Within
  simp only [quot_at, Finset.mem_univ, forall_true_left]
  exact and_iff_right (lt_of_le_of_lt bot_le hc)

/-- A number below twenty, read back as a box. -/
theorem box_nat (n : Fin 20) : Fin.ofNat 20 n.val = n := Fin.ext (Nat.mod_eq_of_lt n.isLt)

/-- One minus the mark of the voxels that do not lie below a threshold. -/
def flag (c : BitVec 32) (d : FVec Ideal S2x20x32x32x32 .f32) : FVec Ideal S2x20x32x32x32 .f32 :=
  subf (broadcastInDim S2x20x32x32x32 ![] bcast_S_S2x20x32x32x32 (constant S_ .f32 0x3F800000#32))
    (select (cmpf .olt d (broadcastInDim S2x20x32x32x32 ![] bcast_S_S2x20x32x32x32 (constant S_ .f32 c)))
      (broadcastInDim S2x20x32x32x32 ![] bcast_S_S2x20x32x32x32 (constant S_ .f32 0x00000000#32))
      (broadcastInDim S2x20x32x32x32 ![] bcast_S_S2x20x32x32x32 (constant S_ .f32 0x3F800000#32)))

/-- One below the threshold, zero elsewhere. -/
theorem flag_at (c : BitVec 32) (d : FVec Ideal S2x20x32x32x32 .f32) (b : Fin 2) (n : Fin 20) (x y z : Fin 32) :
    flag c d (ix5 b n x y z) = 1 - (if d (ix5 b n x y z) < Ideal.ofBits .f32 c then 0 else 1) := by
  pointwise [flag]

/-- The reference marks the voxels within one half. -/
theorem flag_half : val_main_v259 (F := Ideal) X = flag 0x3F000000#32 (val_main_v252 (F := Ideal) X) := rfl

/-- The reference marks the voxels within the threshold of nearness. -/
theorem flag_nigh : val_main_v268 (F := Ideal) X = flag 0x3F4CCCCD#32 (val_main_v252 (F := Ideal) X) := rfl

/-- A box's score, at a voxel. -/
theorem score_at (b : Fin 2) (n : Fin 20) (x y z : Fin 32) :
    val_main_v244 (F := Ideal) S (ix6 b n x y z 0) = S (ix2 b n) := by
  pointwise [val_main_v244, val_main_v243]

/-- A flag times a score is the box's mark. -/
theorem flag_score (c : BitVec 32) (hc : 0 < Ideal.ofBits .f32 c) (b : Fin 2) (n : Fin 20) (x y z : Fin 32) :
    flag c (val_main_v252 (F := Ideal) X) (ix5 b n x y z) * S (ix2 b n)
      = Spec.cover X S (Ideal.ofBits .f32 c) b ![x, y, z] n.val := by
  have h := dist_lt X b n x y z (Ideal.ofBits .f32 c) hc
  rw [flag_at]
  unfold Spec.cover
  rw [box_nat]
  by_cases hd : val_main_v252 (F := Ideal) X (ix5 b n x y z) < Ideal.ofBits .f32 c
  · rw [if_pos hd, if_pos (h.1 hd), sub_zero, one_mul]
  · rw [if_neg hd, if_neg (fun w => hd (h.2 w)), show (1 : EReal) - 1 = 0 by
      rw [← EReal.coe_one, ← EReal.coe_sub, sub_self, EReal.coe_zero], zero_mul]

/-- A product of flags and scores, at a voxel: the flags lack the last coordinate. -/
theorem product_at (u : FVec Ideal S2x20x32x32x32 .f32) (v : FVec Ideal S2x20x32x32x32x1 .f32) (b : Fin 2) (n : Fin 20)
    (x y z : Fin 32) :
    mulf (broadcastInDim S2x20x32x32x32x1 ![0, 1, 2, 3, 4] bcast_S2x20x32x32x32_S2x20x32x32x32x1_0_1_2_3_4 u) v
      (ix6 b n x y z 0) = u (ix5 b n x y z) * v (ix6 b n x y z 0) := by
  pointwise

/-- A product of flags and scores, at a voxel: the scores have lost the last coordinate. -/
theorem squeezed_at (u : FVec Ideal S2x20x32x32x32 .f32) (v : FVec Ideal S2x20x32x32x32x1 .f32) (b : Fin 2) (n : Fin 20)
    (x y z : Fin 32) :
    mulf u (shapeCast S2x20x32x32x32 v shapeCasts_S2x20x32x32x32x1_S2x20x32x32x32) (ix5 b n x y z)
      = u (ix5 b n x y z) * v (ix6 b n x y z 0) := by
  pointwise

/-- A box's mark, at a voxel. -/
theorem mark_at (b : Fin 2) (n : Fin 20) (x y z : Fin 32) :
    val_main_v261 (F := Ideal) X S (ix6 b n x y z 0) = Spec.cover X S half b ![x, y, z] n.val := by
  refine (product_at (val_main_v259 (F := Ideal) X) (val_main_v244 (F := Ideal) S) b n x y z).trans ?_
  rw [flag_half, score_at]
  exact flag_score X S _ half_pos b n x y z

/-- A box's mark of nearness, at a voxel. -/
theorem nigh_at (b : Fin 2) (n : Fin 20) (x y z : Fin 32) :
    val_main_v270 (F := Ideal) X S (ix5 b n x y z) = Spec.cover X S nigh b ![x, y, z] n.val := by
  refine (squeezed_at (val_main_v268 (F := Ideal) X) (val_main_v244 (F := Ideal) S) b n x y z).trans ?_
  rw [flag_nigh, score_at]
  exact flag_score X S _ nigh_pos b n x y z

/-- A box's offsets, at a voxel. -/
theorem delta_at (b : Fin 2) (n : Fin 20) (x y z : Fin 32) (j : Fin 6) :
    val_main_v245 (F := Ideal) X (ix6 b n x y z j) = Spec.delta X b ![x, y, z] j n.val := by
  unfold Spec.delta Spec.loglen Spec.len
  rw [box_nat]
  pointwise [val_main_v245, val_main_v231, val_main_v230, val_main_cst_7, val_main_v242, val_main_v241, val_main_v238,
    val_main_v234, val_main_v233, val_main_v178, val_main_v232, val_main_cst_8, val_main_v237, val_main_v236,
    val_main_cst_10, val_main_v235, val_main_cst_9]
  by_cases h : j.val < 3
  · rw [dif_pos h, dif_pos h, gap_at]
  · rw [dif_neg h, dif_neg h]

/-- A box's marks lie inside the marks of all boxes. -/
theorem marks_inside (n : Fin 20) : S2x20x32x32x32x1.Slices ![0, n.val, 0, 0, 0, 0] S2x1x32x32x32x1 := by
  revert n
  decide

/-- A box's offsets lie inside the offsets of all boxes. -/
theorem deltas_inside (n : Fin 20) : S2x20x32x32x32x6.Slices ![0, n.val, 0, 0, 0, 0] S2x1x32x32x32x6 := by
  revert n
  decide

/-- A box's marks, cut out of the marks of all boxes. -/
def cut1 (v : FVec Ideal S2x20x32x32x32x1 .f32) (n : Fin 20) : FVec Ideal S2x32x32x32x1 .f32 :=
  shapeCast S2x32x32x32x1 (extractStridedSlice S2x1x32x32x32x1 ![0, n.val, 0, 0, 0, 0] v (marks_inside n))
    shapeCasts_S2x1x32x32x32x1_S2x32x32x32x1

/-- A box's offsets, cut out of the offsets of all boxes. -/
def cut6 (v : FVec Ideal S2x20x32x32x32x6 .f32) (n : Fin 20) : FVec Ideal S2x32x32x32x6 .f32 :=
  shapeCast S2x32x32x32x6 (extractStridedSlice S2x1x32x32x32x6 ![0, n.val, 0, 0, 0, 0] v (deltas_inside n))
    shapeCasts_S2x1x32x32x32x6_S2x32x32x32x6

/-- An array spread over the six offsets. -/
def spread (v : FVec Ideal S2x32x32x32x1 .f32) : FVec Ideal S2x32x32x32x6 .f32 :=
  broadcastInDim S2x32x32x32x6 ![0, 1, 2, 3, 4] bcast_S2x32x32x32x1_S2x32x32x32x6_0_1_2_3_4 v

/-- One number everywhere. -/
def fill (c : BitVec 32) : FVec Ideal S2x32x32x32x1 .f32 :=
  broadcastInDim S2x32x32x32x1 ![] bcast_S_S2x32x32x32x1 (constant S_ .f32 c)

/-- A sum of marks brought back to zero or one. -/
def flat (s : FVec Ideal S2x32x32x32x1 .f32) : FVec Ideal S2x32x32x32x1 .f32 :=
  select (cmpf .olt s (fill 0x3F000000#32)) (fill 0x00000000#32) (fill 0x3F800000#32)

/-- The covered mask after box `n`, from the marks `m` of all boxes. -/
def mask (m : FVec Ideal S2x20x32x32x32x1 .f32) (n : ℕ) : FVec Ideal S2x32x32x32x1 .f32 :=
  Nat.rec (cut1 m 0) (fun k s => flat (addf s (cut1 m (Fin.ofNat 20 (k + 1))))) n

/-- The offsets that a box adds: its own where the mask is not covered yet. -/
def fresh (s u : FVec Ideal S2x32x32x32x1 .f32) (d : FVec Ideal S2x32x32x32x6 .f32) : FVec Ideal S2x32x32x32x6 .f32 :=
  mulf (mulf (spread (subf (fill 0x3F800000#32) (mulf s u))) d) (spread u)

/-- The offsets gathered after box `n`, from the marks `m` and the offsets `d` of all boxes. -/
def gathered (m : FVec Ideal S2x20x32x32x32x1 .f32) (d : FVec Ideal S2x20x32x32x32x6 .f32) (n : ℕ) :
    FVec Ideal S2x32x32x32x6 .f32 :=
  Nat.rec (mulf (cut6 d 0) (spread (cut1 m 0)))
    (fun k g => addf g (fresh (mask m k) (cut1 m (Fin.ofNat 20 (k + 1))) (cut6 d (Fin.ofNat 20 (k + 1))))) n

variable (m : FVec Ideal S2x20x32x32x32x1 .f32) (d : FVec Ideal S2x20x32x32x32x6 .f32)

/-- A cut at a voxel. -/
theorem cut1_at (n : Fin 20) (b : Fin 2) (x y z : Fin 32) : cut1 m n (ix5 b x y z 0) = m (ix6 b n x y z 0) := by
  pointwise [cut1]

/-- A cut of offsets at a voxel. -/
theorem cut6_at (n : Fin 20) (b : Fin 2) (x y z : Fin 32) (j : Fin 6) :
    cut6 d n (ix5 b x y z j) = d (ix6 b n x y z j) := by
  pointwise [cut6]

/-- A mask brought back to zero or one, at a voxel. -/
theorem flat_at (s : FVec Ideal S2x32x32x32x1 .f32) (b : Fin 2) (x y z : Fin 32) :
    flat s (ix5 b x y z 0) = bin (s (ix5 b x y z 0)) := by
  unfold bin
  pointwise [flat, fill]

/-- The offsets that a box adds, at a voxel. -/
theorem fresh_at (s u : FVec Ideal S2x32x32x32x1 .f32) (d : FVec Ideal S2x32x32x32x6 .f32) (b : Fin 2) (x y z : Fin 32)
    (j : Fin 6) : fresh s u d (ix5 b x y z j)
      = (1 - s (ix5 b x y z 0) * u (ix5 b x y z 0)) * d (ix5 b x y z j) * u (ix5 b x y z 0) := by
  pointwise [fresh, spread, fill]

/-- The first box's offsets, at a voxel. -/
theorem first_at (u : FVec Ideal S2x32x32x32x1 .f32) (d : FVec Ideal S2x32x32x32x6 .f32) (b : Fin 2) (x y z : Fin 32)
    (j : Fin 6) : mulf d (spread u) (ix5 b x y z j) = d (ix5 b x y z j) * u (ix5 b x y z 0) := by
  pointwise [spread]

/-- The covered mask at a voxel. -/
theorem mask_at (n : ℕ) (b : Fin 2) (x y z : Fin 32) :
    mask m n (ix5 b x y z 0) = cur (fun k => m (ix6 b (Fin.ofNat 20 k) x y z 0)) n := by
  induction n with
  | zero => exact cut1_at m 0 b x y z
  | succ n ih =>
    exact (flat_at _ b x y z).trans (congrArg bin (congrArg₂ (· + ·) ih (cut1_at m _ b x y z)))

/-- The gathered offsets at a voxel. -/
theorem gathered_at (n : ℕ) (b : Fin 2) (x y z : Fin 32) (j : Fin 6) :
    gathered m d n (ix5 b x y z j) = got (fun k => m (ix6 b (Fin.ofNat 20 k) x y z 0))
      (fun k => d (ix6 b (Fin.ofNat 20 k) x y z j)) n := by
  induction n with
  | zero =>
    refine (first_at _ _ b x y z j).trans ?_
    rw [cut1_at, cut6_at]
    rfl
  | succ n ih =>
    refine congrArg₂ (· + ·) ih ((fresh_at _ _ _ b x y z j).trans ?_)
    rw [cut1_at, cut6_at, mask_at]

/-- A mark depends on its box alone. -/
theorem cover_nat (c : EReal) (b : Fin 2) (v : Spec.Voxel) (k : ℕ) :
    Spec.cover X S c b v (Fin.ofNat 20 k).val = Spec.cover X S c b v k := by
  unfold Spec.cover
  rw [box_nat]

/-- An offset depends on its box alone. -/
theorem delta_nat (b : Fin 2) (v : Spec.Voxel) (j : Fin 6) (k : ℕ) :
    Spec.delta X b v j (Fin.ofNat 20 k).val = Spec.delta X b v j k := by
  unfold Spec.delta
  rw [box_nat]

/-- The reference gathers over its 20 boxes. -/
theorem gathered_eq : val_main_v688 (F := Ideal) X S
    = gathered (val_main_v261 (F := Ideal) X S) (val_main_v245 (F := Ideal) X) 19 := rfl

/-- The offset the voxel should predict. -/
theorem target_at (hS : Spec.Flagged S) (b : Fin 2) (x y z : Fin 32) (j : Fin 6) :
    val_main_v688 (F := Ideal) X S (ix5 b x y z j) = Spec.target X S b ![x, y, z] j := by
  rw [gathered_eq, gathered_at]
  unfold Spec.target
  simp only [mark_at, delta_at, cover_nat, delta_nat]
  exact got_eq (Spec.cover_flag X hS half b ![x, y, z]) _ 19

/-- The boxes' marks summed, at a voxel. -/
theorem total_at (b : Fin 2) (x y z : Fin 32) (i : FVec Ideal S_ .f32) :
    Host.reduceAdd (F := Ideal) m i reducesTo_S2x20x32x32x32x1_S2x32x32x32x1_d1 h_S_ (ix5 b x y z 0)
      = i (Shape.Idx.first h_S_) + ∑ n : Fin 20, m (ix6 b n x y z 0) := by
  have hr : S2x20x32x32x32x1.Reduces [1] S2x32x32x32x1 := by decide
  have hl : ∀ n : Fin 20, hr.lift (ix5 b x y z 0) n = ix6 b n x y z 0 := fun n => funext fun c => Fin.ext (by
    match c with
    | ⟨0, _⟩ => rfl
    | ⟨1, _⟩ => rfl
    | ⟨2, _⟩ => rfl
    | ⟨3, _⟩ => rfl
    | ⟨4, _⟩ => rfl
    | ⟨5, _⟩ => rfl)
  refine (Ideal.hostReduceAdd_single reducesTo_S2x20x32x32x32x1_S2x32x32x32x1_d1 hr m (i (Shape.Idx.first h_S_))
    (ix5 b x y z 0)).trans ?_
  exact congrArg (i (Shape.Idx.first h_S_) + ·) (Finset.sum_congr rfl fun n _ => congrArg m (hl n))

/-- The boxes' marks of nearness summed, at a voxel. -/
theorem near_total_at (u : FVec Ideal S2x20x32x32x32 .f32) (b : Fin 2) (x y z : Fin 32) (i : FVec Ideal S_ .f32) :
    Host.reduceAdd (F := Ideal) u i reducesTo_S2x20x32x32x32_S2x32x32x32_d1 h_S_ (ix4 b x y z)
      = i (Shape.Idx.first h_S_) + ∑ n : Fin 20, u (ix5 b n x y z) := by
  pointwise

/-- The mask of covered voxels without its last coordinate, at a voxel. -/
theorem dropped_at (s : FVec Ideal S2x32x32x32x1 .f32) (b : Fin 2) (x y z : Fin 32) :
    shapeCast S2x32x32x32 s shapeCasts_S2x32x32x32x1_S2x32x32x32 (ix4 b x y z) = s (ix5 b x y z 0) := by
  pointwise

/-- One number at every voxel. -/
def everywhere (c : BitVec 32) : FVec Ideal S2x32x32x32 .f32 :=
  broadcastInDim S2x32x32x32 ![] bcast_S_S2x32x32x32 (constant S_ .f32 c)

/-- One where a sum of marks stays below one half, zero elsewhere, at a voxel. -/
theorem clear_at (s : FVec Ideal S2x32x32x32 .f32) (b : Fin 2) (x y z : Fin 32) :
    subf (everywhere 0x3F800000#32) (select (cmpf .olt s (everywhere 0x3F000000#32)) (everywhere 0x00000000#32)
      (everywhere 0x3F800000#32)) (ix4 b x y z) = 1 - bin (s (ix4 b x y z)) := by
  unfold bin
  pointwise [everywhere]

/-- One where a box covers the voxel. -/
theorem pos_at (hS : Spec.Flagged S) (b : Fin 2) (x y z : Fin 32) :
    val_main_v703 (F := Ideal) X S (ix4 b x y z) = Spec.pos X S b ![x, y, z] := by
  have h0 : val_main_cst_98 (F := Ideal) (Shape.Idx.first h_S_) = (0 : EReal) := by pointwise [val_main_cst_98]
  have e : val_main_v703 (F := Ideal) X S = shapeCast S2x32x32x32 (flat (Host.reduceAdd (F := Ideal)
      (val_main_v261 (F := Ideal) X S) (val_main_cst_98 (F := Ideal))
      reducesTo_S2x20x32x32x32x1_S2x32x32x32x1_d1 h_S_)) shapeCasts_S2x32x32x32x1_S2x32x32x32 := rfl
  rw [e, dropped_at, flat_at, total_at, h0, zero_add]
  unfold Spec.pos
  rw [← bin_sum (Spec.cover_flag X hS half b ![x, y, z]) 20]
  simp only [mark_at]

/-- One where no box comes near the voxel. -/
theorem far_at (hS : Spec.Flagged S) (b : Fin 2) (x y z : Fin 32) :
    val_main_v711 (F := Ideal) X S (ix4 b x y z) = Spec.far X S b ![x, y, z] := by
  have h0 : val_main_cst_102 (F := Ideal) (Shape.Idx.first h_S_) = (0 : EReal) := by pointwise [val_main_cst_102]
  have e : val_main_v704 (F := Ideal) X S = Host.reduceAdd (F := Ideal)
      (val_main_v270 (F := Ideal) X S) (val_main_cst_102 (F := Ideal))
      reducesTo_S2x20x32x32x32_S2x32x32x32_d1 h_S_ := rfl
  refine (clear_at (val_main_v704 (F := Ideal) X S) b x y z).trans ?_
  rw [e, near_total_at, h0, zero_add]
  unfold Spec.far
  rw [← bin_sum (Spec.cover_flag X hS nigh b ![x, y, z]) 20]
  simp only [nigh_at]

end Cert.ReferenceIdeal.Boxes
-- ==== Proof.Loss.lean ====
/- The reference's loss: its sums over the voxels of both images, put together. -/
module

public import proofs.«01_k».proof.Proof.Taps
public import proofs.«01_k».proof.Proof.Boxes

@[expose] public section

set_option maxRecDepth 65536

noncomputable section

namespace Cert.ReferenceIdeal.Loss

open Cert.ReferenceIdeal Cert.ReferenceIdeal.Gen Cert.ReferenceIdeal.Read Cert.Flags Idealize.ShloMosaic

/-- An array summed over every voxel. -/
theorem all_at (u : FVec Ideal S2x32x32x32 .f32) (i : FVec Ideal S_ .f32) (g : Fin 2 → Spec.Voxel → EReal)
    (hi : i (Shape.Idx.first h_S_) = 0) (hu : ∀ b x y z, u (ix4 b x y z) = g b ![x, y, z]) :
    Host.reduceAdd (F := Ideal) u i reducesTo_S2x32x32x32_S_d0_1_2_3 h_S_ ix0 = Spec.sum g := by
  refine (Ideal.hostReduceAdd_total reducesTo_S2x32x32x32_S_d0_1_2_3 (fun b => b.elim0) u (i (Shape.Idx.first h_S_)) ix0).trans ?_
  rw [hi, zero_add, sum_idx4]
  simp only [hu]
  rfl

/-- An array summed over every voxel and offset. -/
theorem all_offsets_at (u : FVec Ideal S2x32x32x32x6 .f32) (i : FVec Ideal S_ .f32)
    (g : Fin 2 → Spec.Voxel → Fin 6 → EReal) (hi : i (Shape.Idx.first h_S_) = 0)
    (hu : ∀ b x y z j, u (ix5 b x y z j) = g b ![x, y, z] j) :
    Host.reduceAdd (F := Ideal) u i reducesTo_S2x32x32x32x6_S_d0_1_2_3_4 h_S_ ix0
      = Spec.sum fun b v => ∑ j : Fin 6, g b v j := by
  refine (Ideal.hostReduceAdd_total reducesTo_S2x32x32x32x6_S_d0_1_2_3_4 (fun b => b.elim0) u (i (Shape.Idx.first h_S_)) ix0).trans ?_
  rw [hi, zero_add, sum_idx5]
  simp only [hu]
  rfl

/-- One number at every voxel and offset. -/
def fill6 (c : BitVec 32) : FVec Ideal S2x32x32x32x6 .f32 :=
  broadcastInDim S2x32x32x32x6 ![] bcast_S_S2x32x32x32x6 (constant S_ .f32 c)

/-- One where an error is small, zero elsewhere. -/
def small (e : FVec Ideal S2x32x32x32x6 .f32) : FVec Ideal S2x32x32x32x6 .f32 :=
  uitofp .f32 (cmpf .olt (Host.absf e) (fill6 0x3DE38E39#32))

/-- The smooth error of every offset. -/
def smoothed (e : FVec Ideal S2x32x32x32x6 .f32) : FVec Ideal S2x32x32x32x6 .f32 :=
  addf (mulf (mulf (mulf (mulf e e) (fill6 0x3F000000#32)) (fill6 0x41100000#32)) (small e))
    (mulf (subf (Host.absf e) (fill6 0x3D638E39#32)) (subf (fill6 0x3F800000#32) (small e)))

/-- The mark of small errors, at a voxel. -/
theorem small_at (e : FVec Ideal S2x32x32x32x6 .f32) (b : Fin 2) (x y z : Fin 32) (j : Fin 6) :
    small e (ix5 b x y z j) = if max (e (ix5 b x y z j)) (-(e (ix5 b x y z j))) < Ideal.ofBits .f32 0x3DE38E39#32
      then 1 else 0 := by
  pointwise [small, fill6]
  show (((BitVec.ofBool (decide (max (e (ix5 b x y z j)) (-(e (ix5 b x y z j))) < Ideal.ofBits .f32 0x3DE38E39#32))).toNat
    : ℝ) : EReal) = _
  by_cases h : max (e (ix5 b x y z j)) (-(e (ix5 b x y z j))) < Ideal.ofBits .f32 0x3DE38E39#32
  · rw [if_pos h, decide_eq_true h]; simp
  · rw [if_neg h, decide_eq_false h]; simp

/-- The smooth error, at a voxel. -/
theorem smoothed_at (e : FVec Ideal S2x32x32x32x6 .f32) (b : Fin 2) (x y z : Fin 32) (j : Fin 6) :
    smoothed e (ix5 b x y z j) = smooth (e (ix5 b x y z j)) := by
  rw [← smooth_eq _ _ (small_at e b x y z j)]
  pointwise [smoothed, fill6]
  rfl

variable (X : Spec.Boxes) (S : Spec.Scores) (f : Spec.Feats) (w : Spec.Weights) (β : Spec.Bias)

/-- The weight of an offset's error, at a voxel. -/
theorem weighted_at (e : FVec Ideal S2x32x32x32x6 .f32) (u : FVec Ideal S2x32x32x32 .f32) (b : Fin 2) (x y z : Fin 32)
    (j : Fin 6) : mulf e (broadcastInDim S2x32x32x32x6 ![0, 1, 2, 3, 4] bcast_S2x32x32x32x1_S2x32x32x32x6_0_1_2_3_4
      (broadcastInDim S2x32x32x32x1 ![0, 1, 2, 3] bcast_S2x32x32x32_S2x32x32x32x1_0_1_2_3 u)) (ix5 b x y z j)
      = e (ix5 b x y z j) * u (ix4 b x y z) := by
  pointwise

/-- The offset loss of one offset, at a voxel. -/
theorem reg_at (hS : Spec.Flagged S) (b : Fin 2) (x y z : Fin 32) (j : Fin 6) :
    val_main_v752 (F := Ideal) X S f w β (ix5 b x y z j)
      = Spec.err X S f w β b ![x, y, z] j * Spec.pos X S b ![x, y, z] := by
  refine (weighted_at (smoothed (val_main_v732 (F := Ideal) X S f w β)) (val_main_v703 (F := Ideal) X S) b x y z j).trans ?_
  have e : val_main_v732 (F := Ideal) X S f w β (ix5 b x y z j)
      = val_main_v177 (F := Ideal) f w β (ix5 b x y z j) - val_main_v688 (F := Ideal) X S (ix5 b x y z j) := rfl
  rw [smoothed_at, e, Taps.offset_at, Boxes.target_at X S hS, Boxes.pos_at X S hS]
  rfl

/-- The loss of a covered voxel. -/
theorem clsPos_at (hS : Spec.Flagged S) (b : Fin 2) (x y z : Fin 32) :
    val_main_v718 (F := Ideal) X S f w β (ix4 b x y z) = Spec.clsPos X S f w β b ![x, y, z] := by
  unfold Spec.clsPos
  rw [← Taps.prob_at, ← Boxes.pos_at X S hS]
  pointwise [val_main_v718, val_main_v714, val_main_v717, val_main_v716, val_main_v715, val_main_cst_109]

/-- The loss of a voxel no box comes near. -/
theorem clsNeg_at (hS : Spec.Flagged S) (b : Fin 2) (x y z : Fin 32) :
    val_main_v728 (F := Ideal) X S f w β (ix4 b x y z) = Spec.clsNeg X S f w β b ![x, y, z] := by
  unfold Spec.clsNeg
  rw [← Taps.prob_at, ← Boxes.far_at X S hS]
  pointwise [val_main_v728, val_main_v722, val_main_v727, val_main_v726, val_main_v724, val_main_v723, val_main_cst_112,
    val_main_v725, val_main_cst_113]

/-- The last steps of the loss: three quotients summed, and a sum times zero. -/
theorem last_at (p q r s t u k e : FVec Ideal S_ .f32) (hk : k ix0 = 0) (he : e ix0 = Spec.eps) :
    addf (addf (addf (Host.divf p (addf s e)) (Host.divf q (addf t e))) (Host.divf r (addf s e))) (mulf (mulf k u) k) ix0
      = Ideal.div (p ix0) (s ix0 + Spec.eps) + Ideal.div (q ix0) (t ix0 + Spec.eps)
        + Ideal.div (r ix0) (s ix0 + Spec.eps) := by
  pointwise
  rw [hk, he, zero_mul, zero_mul, add_zero]

/-- With scores zero or one, the reference computes the loss. -/
theorem value_eq (hS : Spec.Flagged S) :
    val_main_v762 (F := Ideal) X S f w β = fun _ => Spec.value X S f w β := by
  have z : ∀ k : FVec Ideal S_ .f32, k = constant S_ .f32 0x00000000#32 → k (Shape.Idx.first h_S_) = 0 := by
    intro k hk
    rw [hk]
    pointwise
  have hz : constant (F := Ideal) S_ .f32 0x00000000#32 ix0 = (0 : EReal) := by pointwise
  have he : constant (F := Ideal) S_ .f32 0x358637BD#32 ix0 = Spec.eps := by pointwise
  have e1 : val_main_v712 (F := Ideal) X S ix0 = Spec.sum (Spec.pos X S) :=
    all_at (val_main_v703 (F := Ideal) X S) (val_main_cst_107 (F := Ideal)) _ (z _ rfl) (Boxes.pos_at X S hS)
  have e2 : val_main_v713 (F := Ideal) X S ix0 = Spec.sum (Spec.far X S) :=
    all_at (val_main_v711 (F := Ideal) X S) (val_main_cst_108 (F := Ideal)) _ (z _ rfl) (Boxes.far_at X S hS)
  have e3 : val_main_v719 (F := Ideal) X S f w β ix0 = Spec.sum (Spec.clsPos X S f w β) :=
    all_at (val_main_v718 (F := Ideal) X S f w β) (val_main_cst_110 (F := Ideal)) _ (z _ rfl) (clsPos_at X S f w β hS)
  have e4 : val_main_v729 (F := Ideal) X S f w β ix0 = Spec.sum (Spec.clsNeg X S f w β) :=
    all_at (val_main_v728 (F := Ideal) X S f w β) (val_main_cst_114 (F := Ideal)) _ (z _ rfl) (clsNeg_at X S f w β hS)
  have e5 : val_main_v753 (F := Ideal) X S f w β ix0 = Spec.sum (Spec.reg X S f w β) :=
    all_offsets_at (val_main_v752 (F := Ideal) X S f w β) (val_main_cst_121 (F := Ideal)) _ (z _ rfl)
      (reg_at X S f w β hS)
  have h := last_at (val_main_v719 (F := Ideal) X S f w β) (val_main_v729 (F := Ideal) X S f w β)
    (val_main_v753 (F := Ideal) X S f w β) (val_main_v712 (F := Ideal) X S) (val_main_v713 (F := Ideal) X S)
    (val_main_v758 (F := Ideal) X) (constant (F := Ideal) S_ .f32 0x00000000#32)
    (constant (F := Ideal) S_ .f32 0x358637BD#32) hz he
  rw [e1, e2, e3, e4, e5] at h
  have hr : val_main_v761 (F := Ideal) X S f w β ix0 = Spec.value X S f w β := h
  funext i
  refine Eq.trans (congrArg (val_main_v761 (F := Ideal) X S f w β) ?_) hr
  exact funext fun a => a.elim0

end Cert.ReferenceIdeal.Loss
-- ==== Proof.Agree.lean ====
/- The two programs agree: with every score zero or one, both end with the loss of their arguments. -/
module

public import proofs.«01_k».proof.Defs
public import proofs.«01_k».proof.Proof.Final
public import proofs.«01_k».proof.Proof.Loss
public import proofs.«01_k».proof.Proof.Gen.KernelIdeal.Value
public import proofs.«01_k».proof.Proof.Gen.ReferenceIdeal.Run

@[expose] public section

set_option maxRecDepth 65536

noncomputable section

namespace Cert.Agree

open Idealize.ShloMosaic Idealize.SL.Sem

/-- The side conditions of the precondition's operations. -/
theorem pre_facts : Cert.Pre_scores_are_flags.Facts := ⟨by decide⟩

/-- An entry of the precondition's array. -/
theorem pre_at [Cert.Pre_scores_are_flags.Facts] (X : Spec.Boxes) (S : Spec.Scores) (f : Spec.Feats) (w : Spec.Weights)
    (β : Spec.Bias) (b : Fin 2) (n : Fin 20)
    (h : Cert.Pre_scores_are_flags.fn (F := Ideal) X S f w β (ix2 b n) = 1#1) : S (ix2 b n) = 0 ∨ S (ix2 b n) = 1 := by
  revert h
  pointwise [Cert.Pre_scores_are_flags.fn]
  by_cases h0 : S (ix2 b n) = 0
  · exact fun _ => .inl h0
  · by_cases h1 : S (ix2 b n) = 1
    · exact fun _ => .inr h1
    · rw [decide_eq_false h0, decide_eq_false h1]
      exact fun h => absurd h (by decide)

/-- The kernel's run and the reference's run from the same arguments end with one result. -/
theorem algebraic (hK : Cert.KernelIdeal.Facts) (hR : Cert.ReferenceIdeal.Facts) (hP : Cert.Pre_scores_are_flags.Facts) :
    Cert.algebraic_KernelIdeal_ReferenceIdeal_pre_scores_are_flags (hKernelIdeal := hK) (hReferenceIdeal := hR)
      (hPre_scores_are_flags := hP) := by
  intro m g m' g' hpre hagree
  have hS : ∀ c : Dev Cert.KernelIdeal.nD, Spec.Flagged (Cert.KernelIdeal.Host.scores m c) :=
    fun c b n => pre_at _ _ _ _ _ b n (congrFun (hpre c) (ix2 b n))
  refine ⟨fun c _ => Spec.value (Cert.KernelIdeal.Host.boxes m c) (Cert.KernelIdeal.Host.scores m c)
    (Cert.KernelIdeal.Host.feats m c) (Cert.KernelIdeal.Host.weights m c) (Cert.KernelIdeal.Host.biases m c), ?_, ?_⟩
  · exact (θ_run _ _ _).mono (fun r h c => ⟨(h c).1.trans (Cert.KernelIdeal.Final.final m c (hS c)), (h c).2⟩)
      (Cert.KernelIdeal.Value.run_blocks (F := Ideal) m g)
  · refine (θ_run _ _ _).mono (fun r h c => ⟨(h c).1.trans ?_, (h c).2⟩)
      (Cert.ReferenceIdeal.Value.run (F := Ideal) m' g')
    refine (Cert.ReferenceIdeal.Read.val_main_v762_eq (StableHlo.launchContents m' c)).trans ?_
    have e : ∀ X S f w β, X = Cert.KernelIdeal.Host.boxes m c → S = Cert.KernelIdeal.Host.scores m c →
        f = Cert.KernelIdeal.Host.feats m c → w = Cert.KernelIdeal.Host.weights m c →
        β = Cert.KernelIdeal.Host.biases m c → Cert.ReferenceIdeal.Read.val_main_v762 (F := Ideal) X S f w β
          = fun _ => Spec.value (Cert.KernelIdeal.Host.boxes m c) (Cert.KernelIdeal.Host.scores m c)
            (Cert.KernelIdeal.Host.feats m c) (Cert.KernelIdeal.Host.weights m c) (Cert.KernelIdeal.Host.biases m c) := by
      intro X S f w β h0 h1 h2 h3 h4
      subst h0 h1 h2 h3 h4
      exact Cert.ReferenceIdeal.Loss.value_eq _ _ _ _ _ (hS c)
    exact e _ _ _ _ _ (hagree c).1 (hagree c).2.1 (hagree c).2.2.1 (hagree c).2.2.2.1 (hagree c).2.2.2.2

end Cert.Agree
-- ==== Proof.lean ====
/- The certificate: the frames of the three programs, the preservation of the kernel by its idealization, and the equality
   of the idealized kernel with the idealized reference. -/
module

public import proofs.«01_k».proof.Defs
public import proofs.«01_k».proof.Proof.Agree
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import Idealize.ShloMosaic.Adequacy
public import Idealize.ShloMosaic.Init

@[expose] public section

set_option maxRecDepth 65536

noncomputable section

namespace Cert.Proof

open Idealize.ShloMosaic Idealize.SL.Sem

/-- The reference ends with its arguments unchanged, and no semaphore of it is left raised: it has none. -/
theorem reference_frame : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩)
    (Cert.ReferenceIdeal.Value.run (F := Ideal) m ρ)

/-- All five claims. -/
theorem claim : Cert.Claim :=
  ⟨Cert.Kernel.Gen.facts, Cert.KernelIdeal.Gen.facts, Cert.ReferenceIdeal.Gen.facts, Cert.Agree.pre_facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    trivial, Cert.Agree.algebraic _ _ _⟩

end Cert.Proof

end
